-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbours_apart [hPre_neighbours_apart : Cert.Pre_neighbours_apart.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_apart [hPre_neighbours_apart : Cert.Pre_neighbours_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_neighbours_apart [hKernelIdeal : Cert.KernelIdeal.Facts] [hPre_neighbours_apart : Cert.Pre_neighbours_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_neighbours_apart [hReferenceIdeal : Cert.ReferenceIdeal.Facts] [hPre_neighbours_apart : Cert.Pre_neighbours_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_count" .f32 0x35CCCCCD#32 ((1 / 655360 : ℝ) : EReal)
  ∧ IdealRules.named_const.Statement Cert.KernelIdeal.κ "sixth" .f32 0x3E2AAAAB#32 ((1 / 6 : ℝ) : EReal)

def algebraic_KernelIdeal_ReferenceIdeal_pre_neighbours_apart [hKernelIdeal : Cert.KernelIdeal.Facts] [hReferenceIdeal : Cert.ReferenceIdeal.Facts] [hPre_neighbours_apart : Cert.Pre_neighbours_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_neighbours_apart : Cert.Pre_neighbours_apart.Facts),
    quiescent_Kernel (hKernel := hKernel)
    ∧ quiescent_KernelIdeal (hKernelIdeal := hKernelIdeal)
    ∧ quiescent_KernelIdeal_pre_neighbours_apart (hKernelIdeal := hKernelIdeal) (hPre_neighbours_apart := hPre_neighbours_apart)
    ∧ quiescent_ReferenceIdeal (hReferenceIdeal := hReferenceIdeal)
    ∧ quiescent_ReferenceIdeal_pre_neighbours_apart (hReferenceIdeal := hReferenceIdeal) (hPre_neighbours_apart := hPre_neighbours_apart)
    ∧ preserves_Kernel_KernelIdeal
    ∧ algebraic_KernelIdeal_ReferenceIdeal_pre_neighbours_apart (hKernelIdeal := hKernelIdeal) (hReferenceIdeal := hReferenceIdeal) (hPre_neighbours_apart := hPre_neighbours_apart)
-- ==== Pre_neighbours_apart.lean ====
abbrev S16x2048x3 : Shape := ⟨3, ![16, 2048, 3]⟩
abbrev S32x6 : Shape := ⟨2, ![32, 6]⟩
abbrev S32 : Shape := ⟨1, ![32]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x21 : Shape := ⟨3, ![16, 2048, 21]⟩
abbrev S16x2048x19 : Shape := ⟨3, ![16, 2048, 19]⟩

class Facts : Prop where
  bcast_S_S16x2048x2048 : S_.BroadcastsInDim S16x2048x2048 (![] : Fin 0 → Fin S16x2048x2048.rank)
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x1_S16x1x2048_0_2_1 : S16x2048x1.Transposes [0, 2, 1] S16x1x2048
  bcast_S16x1x2048_S16x2048x2048_0_1_2 : S16x1x2048.BroadcastsInDim S16x2048x2048 (![0, 1, 2] : Fin 3 → Fin S16x2048x2048.rank)
  sliceFits_S16x2048x2048_S16x2048x21 : S16x2048x2048.Slices (fun _ => 0) S16x2048x21
  slices_S16x2048x21_S16x2048x19_0_0_1 : S16x2048x21.Slices ![0, 0, 1] S16x2048x19
  slices_S16x2048x21_S16x2048x19_0_0_2 : S16x2048x21.Slices ![0, 0, 2] S16x2048x19
  reducesTo_S16x2048x19_S_d0_1_2 : S16x2048x19.ReducesTo [0, 1, 2] S_
  bcast_S_S16x2048x3 : S_.BroadcastsInDim S16x2048x3 (![] : Fin 0 → Fin S16x2048x3.rank)
  reducesTo_S16x2048x3_S_d0_1_2 : S16x2048x3.ReducesTo [0, 1, 2] S_
  bcast_S_S32x6 : S_.BroadcastsInDim S32x6 (![] : Fin 0 → Fin S32x6.rank)
  reducesTo_S32x6_S_d0_1 : S32x6.ReducesTo [0, 1] S_
  bcast_S_S32 : S_.BroadcastsInDim S32 (![] : Fin 0 → Fin S32.rank)
  reducesTo_S32_S_d0 : S32.ReducesTo [0] S_
  dot_S16x2048x3_S16x2048x3_S16x2048x2048_2_2_1_1_0_0_wf : DotDims.WF S16x2048x3 S16x2048x3 S16x2048x2048 [2] [2] [1] [1] [0] [0]

variable [Facts]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf
def fn_part1 {F : FTy → Type} [FloatOps F] (main_arg1 : FVec F S32x6 .f32) (main_arg2 : FVec F S32 .f32) (main_v15 : IVec S_ 1) (main_v16 : FVec F S16x2048x3 .f32) (main_v17 : FVec F S16x2048x3 .f32) : IVec S_ 1 :=
  let main_v18 : IVec S16x2048x3 1 := cmpf .olt main_v16 main_v17
  let main_c_2 : IVec S_ 1 := constantI S_ 1 1#1
  let main_v19 : IVec S_ 1 := (fun x v => Host.reduce IntOp.andi x v reducesTo_S16x2048x3_S_d0_1_2 h_S_) main_v18 main_c_2
  let main_v20 : FVec F S32x6 .f32 := Host.absf main_arg1
  let main_cst_3 : FVec F S_ .f32 := constant S_ .f32 0x7F800000#32
  let main_v21 : FVec F S32x6 .f32 := broadcastInDim S32x6 ![] bcast_S_S32x6 main_cst_3
  let main_v22 : IVec S32x6 1 := cmpf .olt main_v20 main_v21
  let main_c_4 : IVec S_ 1 := constantI S_ 1 1#1
  let main_v23 : IVec S_ 1 := (fun x v => Host.reduce IntOp.andi x v reducesTo_S32x6_S_d0_1 h_S_) main_v22 main_c_4
  let main_v24 : IVec S_ 1 := andi main_v19 main_v23
  let main_v25 : FVec F S32 .f32 := Host.absf main_arg2
  let main_cst_5 : FVec F S_ .f32 := constant S_ .f32 0x7F800000#32
  let main_v26 : FVec F S32 .f32 := broadcastInDim S32 ![] bcast_S_S32 main_cst_5
  let main_v27 : IVec S32 1 := cmpf .olt main_v25 main_v26
  let main_c_6 : IVec S_ 1 := constantI S_ 1 1#1
  let main_v28 : IVec S_ 1 := (fun x v => Host.reduce IntOp.andi x v reducesTo_S32_S_d0 h_S_) main_v27 main_c_6
  let main_v29 : IVec S_ 1 := andi main_v24 main_v28
  let main_v30 : IVec S_ 1 := andi main_v15 main_v29
  main_v30

def fn {F : FTy → Type} [FloatOps F] (main_arg0 : FVec F S16x2048x3 .f32) (main_arg1 : FVec F S32x6 .f32) (main_arg2 : FVec F S32 .f32) (main_arg3 : FVec F S32 .f32) : IVec S_ 1 :=
  let main_v0 : FVec F S16x2048x2048 .f32 := (fun l r => Host.dotGeneral dot_S16x2048x3_S16x2048x3_S16x2048x2048_2_2_1_1_0_0 none l r) main_arg0 main_arg0
  let main_cst : FVec F S_ .f32 := constant S_ .f32 0xC0000000#32
  let main_v1 : FVec F S16x2048x2048 .f32 := broadcastInDim S16x2048x2048 ![] bcast_S_S16x2048x2048 main_cst
  let main_v2 : FVec F S16x2048x2048 .f32 := mulf main_v1 main_v0
  let main_v3 : FVec F S16x2048x3 .f32 := mulf main_arg0 main_arg0
  let main_cst_0 : FVec F S_ .f32 := constant S_ .f32 0x00000000#32
  let main_v4 : FVec F S16x2048 .f32 := (fun x v => Host.reduceAdd x v reducesTo_S16x2048x3_S16x2048_d2 h_S_) main_v3 main_cst_0
  let main_v5 : FVec F S16x2048x1 .f32 := broadcastInDim S16x2048x1 ![0, 1] bcast_S16x2048_S16x2048x1_0_1 main_v4
  let main_v6 : FVec F S16x2048x1 .f32 := Host.negf main_v5
  let main_v7 : FVec F S16x2048x2048 .f32 := broadcastInDim S16x2048x2048 ![0, 1, 2] bcast_S16x2048x1_S16x2048x2048_0_1_2 main_v6
  let main_v8 : FVec F S16x2048x2048 .f32 := subf main_v7 main_v2
  let main_v9 : FVec F S16x1x2048 .f32 := (transpose S16x1x2048 [0, 2, 1] · transposes_S16x2048x1_S16x1x2048_0_2_1) main_v5
  let main_v10 : FVec F S16x2048x2048 .f32 := broadcastInDim S16x2048x2048 ![0, 1, 2] bcast_S16x1x2048_S16x2048x2048_0_1_2 main_v9
  let main_v11 : FVec F S16x2048x2048 .f32 := subf main_v8 main_v10
  let main_values : FVec F S16x2048x21 .f32 := (fun x => (Host.topK S16x2048x21 2 (FloatOps.cmpfTotal .gt) x sliceFits_S16x2048x2048_S16x2048x21).1) main_v11
  let main_indices : IVec S16x2048x21 32 := (fun x => (Host.topK S16x2048x21 2 (FloatOps.cmpfTotal .gt) x sliceFits_S16x2048x2048_S16x2048x21).2) main_v11
  let main_v12 : FVec F S16x2048x19 .f32 := (extractStridedSlice S16x2048x19 ![0, 0, 1] · slices_S16x2048x21_S16x2048x19_0_0_1) main_values
  let main_v13 : FVec F S16x2048x19 .f32 := (extractStridedSlice S16x2048x19 ![0, 0, 2] · slices_S16x2048x21_S16x2048x19_0_0_2) main_values
  let main_v14 : IVec S16x2048x19 1 := cmpf .ogt main_v12 main_v13
  let main_c : IVec S_ 1 := constantI S_ 1 1#1
  let main_v15 : IVec S_ 1 := (fun x v => Host.reduce IntOp.andi x v reducesTo_S16x2048x19_S_d0_1_2 h_S_) main_v14 main_c
  let main_v16 : FVec F S16x2048x3 .f32 := Host.absf main_arg0
  let main_cst_1 : FVec F S_ .f32 := constant S_ .f32 0x7F800000#32
  let main_v17 : FVec F S16x2048x3 .f32 := broadcastInDim S16x2048x3 ![] bcast_S_S16x2048x3 main_cst_1
  fn_part1 (F := F) main_arg1 main_arg2 main_v15 main_v16 main_v17
-- ==== Kernel.lean ====
abbrev S16x2048x3 : Shape := ⟨3, ![16, 2048, 3]⟩
abbrev S32x6 : Shape := ⟨2, ![32, 6]⟩
abbrev S32 : Shape := ⟨1, ![32]⟩
abbrev S16x3x2048 : Shape := ⟨3, ![16, 3, 2048]⟩
abbrev S16x2048x6 : Shape := ⟨3, ![16, 2048, 6]⟩
abbrev S32x3 : Shape := ⟨2, ![32, 3]⟩
abbrev S3x32 : Shape := ⟨2, ![3, 32]⟩
abbrev S16x8x256x64 : Shape := ⟨4, ![16, 8, 256, 64]⟩
abbrev S16x8x8x32 : Shape := ⟨4, ![16, 8, 8, 32]⟩
abbrev S1x256x3 : Shape := ⟨3, ![1, 256, 3]⟩
abbrev S1x3x2048 : Shape := ⟨3, ![1, 3, 2048]⟩
abbrev S1x2048x6 : Shape := ⟨3, ![1, 2048, 6]⟩
abbrev S1x1x256x64 : Shape := ⟨4, ![1, 1, 256, 64]⟩
abbrev S1x1x8x32 : Shape := ⟨4, ![1, 1, 8, 32]⟩
abbrev S256x3 : Shape := ⟨2, ![256, 3]⟩
abbrev S3x2048 : Shape := ⟨2, ![3, 2048]⟩
abbrev S2048x6 : Shape := ⟨2, ![2048, 6]⟩
abbrev S2048 : Shape := ⟨1, ![2048]⟩
abbrev S1x2048 : Shape := ⟨2, ![1, 2048]⟩
abbrev S256x2048 : Shape := ⟨2, ![256, 2048]⟩
abbrev S256x32 : Shape := ⟨2, ![256, 32]⟩
abbrev S256 : Shape := ⟨1, ![256]⟩
abbrev S256x1 : Shape := ⟨2, ![256, 1]⟩
abbrev S256x6 : Shape := ⟨2, ![256, 6]⟩
abbrev S256x4 : Shape := ⟨2, ![256, 4]⟩
abbrev S256x64 : Shape := ⟨2, ![256, 64]⟩
abbrev S1x32 : Shape := ⟨2, ![1, 32]⟩
abbrev S6x32 : Shape := ⟨2, ![6, 32]⟩
abbrev S8x32 : Shape := ⟨2, ![8, 32]⟩
abbrev S128x8x32 : Shape := ⟨3, ![128, 8, 32]⟩
abbrev S2x32 : Shape := ⟨2, ![2, 32]⟩
abbrev S16x32x2048 : Shape := ⟨3, ![16, 32, 2048]⟩
abbrev S1x32x256 : Shape := ⟨3, ![1, 32, 256]⟩
abbrev S32x256 : Shape := ⟨2, ![32, 256]⟩

abbrev nBuf : Space → Nat
  | .hbm => 23
  | .vmem => 22
  | .smem => 0
  | _ => 0

abbrev bufTy : (tb : Table) → Fin (tcTables nBuf tb) → BufTy
  | .hbm, ⟨0, _⟩ => ⟨S16x2048x3, .f32⟩
  | .hbm, ⟨1, _⟩ => ⟨S32x6, .f32⟩
  | .hbm, ⟨2, _⟩ => ⟨S32, .f32⟩
  | .hbm, ⟨3, _⟩ => ⟨S32, .f32⟩
  | .hbm, ⟨4, _⟩ => ⟨S16x3x2048, .f32⟩
  | .hbm, ⟨5, _⟩ => ⟨S16x2048x3, .bf16⟩
  | .hbm, ⟨6, _⟩ => ⟨S16x2048x3, .f32⟩
  | .hbm, ⟨7, _⟩ => ⟨S16x2048x3, .f32⟩
  | .hbm, ⟨8, _⟩ => ⟨S16x2048x3, .bf16⟩
  | .hbm, ⟨9, _⟩ => ⟨S16x2048x6, .bf16⟩
  | .hbm, ⟨10, _⟩ => ⟨S32x3, .f32⟩
  | .hbm, ⟨11, _⟩ => ⟨S32x3, .f32⟩
  | .hbm, ⟨12, _⟩ => ⟨S32x3, .f32⟩
  | .hbm, ⟨13, _⟩ => ⟨S3x32, .f32⟩
  | .hbm, ⟨14, _⟩ => ⟨S32x3, .f32⟩
  | .hbm, ⟨15, _⟩ => ⟨S3x32, .f32⟩
  | .hbm, ⟨16, _⟩ => ⟨S16x8x256x64, .f32⟩
  | .hbm, ⟨17, _⟩ => ⟨S16x8x8x32, .f32⟩
  | .hbm, ⟨18, _⟩ => ⟨S128x8x32, .f32⟩
  | .hbm, ⟨19, _⟩ => ⟨S1x32, .f32⟩
  | .hbm, ⟨20, _⟩ => ⟨S1x32, .f32⟩
  | .hbm, ⟨21, _⟩ => ⟨S2x32, .f32⟩
  | .hbm, ⟨22, _⟩ => ⟨S16x32x2048, .f32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x6, .bf16⟩
  | .local _ .vmem, ⟨5, _⟩ => ⟨S1x2048x6, .bf16⟩
  | .local _ .vmem, ⟨6, _⟩ => ⟨S3x32, .f32⟩
  | .local _ .vmem, ⟨7, _⟩ => ⟨S3x32, .f32⟩
  | .local _ .vmem, ⟨8, _⟩ => ⟨S1x1x256x64, .f32⟩
  | .local _ .vmem, ⟨9, _⟩ => ⟨S1x1x256x64, .f32⟩
  | .local _ .vmem, ⟨10, _⟩ => ⟨S1x1x8x32, .f32⟩
  | .local _ .vmem, ⟨11, _⟩ => ⟨S1x1x8x32, .f32⟩
  | .local _ .vmem, ⟨12, _⟩ => ⟨S1x256x3, .f32⟩
  | .local _ .vmem, ⟨13, _⟩ => ⟨S1x256x3, .f32⟩
  | .local _ .vmem, ⟨14, _⟩ => ⟨S1x1x256x64, .f32⟩
  | .local _ .vmem, ⟨15, _⟩ => ⟨S1x1x256x64, .f32⟩
  | .local _ .vmem, ⟨16, _⟩ => ⟨S3x32, .f32⟩
  | .local _ .vmem, ⟨17, _⟩ => ⟨S3x32, .f32⟩
  | .local _ .vmem, ⟨18, _⟩ => ⟨S128x8x32, .f32⟩
  | .local _ .vmem, ⟨19, _⟩ => ⟨S2x32, .f32⟩
  | .local _ .vmem, ⟨20, _⟩ => ⟨S1x32x256, .f32⟩
  | .local _ .vmem, ⟨21, _⟩ => ⟨S1x32x256, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x6 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S3x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x8x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x32x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "inv_count" => some ((1 / 655360 : ℝ) : EReal)
  | "mask" => some ⊥
  | "sixth" => some ((1 / 6 : ℝ) : EReal)
  | _ => none
-- ==== ReferenceIdeal.lean ====
abbrev S16x2048x3 : Shape := ⟨3, ![16, 2048, 3]⟩
abbrev S32x6 : Shape := ⟨2, ![32, 6]⟩
abbrev S32 : Shape := ⟨1, ![32]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x20 : Shape := ⟨3, ![16, 2048, 20]⟩
abbrev S16x2048x20x1 : Shape := ⟨4, ![16, 2048, 20, 1]⟩
abbrev S16x2048x20x3 : Shape := ⟨4, ![16, 2048, 20, 3]⟩
abbrev S16x2048x1x3 : Shape := ⟨4, ![16, 2048, 1, 3]⟩
abbrev S16x2048x20x6 : Shape := ⟨4, ![16, 2048, 20, 6]⟩
abbrev S16x6x2048x20 : Shape := ⟨4, ![16, 6, 2048, 20]⟩
abbrev S16x2048x20x32 : Shape := ⟨4, ![16, 2048, 20, 32]⟩
abbrev S16x32x2048x20 : Shape := ⟨4, ![16, 32, 2048, 20]⟩
abbrev S1x32x1x1 : Shape := ⟨4, ![1, 32, 1, 1]⟩
abbrev S16x32x2048 : Shape := ⟨3, ![16, 32, 2048]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S32x6, .f32⟩
  | .hbm, ⟨2, _⟩ => ⟨S32, .f32⟩
  | .hbm, ⟨3, _⟩ => ⟨S32, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x3, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x1x2048, .f32⟩
  | .hbm, ⟨16, _⟩ => ⟨S16x2048x2048, .f32⟩
  | .hbm, ⟨17, _⟩ => ⟨S16x2048x2048, .f32⟩
  | .hbm, ⟨18, _⟩ => ⟨S16x2048x20, .f32⟩
  | .hbm, ⟨19, _⟩ => ⟨S16x2048x20, .i32⟩
  | .hbm, ⟨20, _⟩ => ⟨S_, .i32⟩
  | .hbm, ⟨21, _⟩ => ⟨S16x2048x20, .i32⟩
  | .hbm, ⟨22, _⟩ => ⟨S16x2048x20, .i1⟩
  | .hbm, ⟨23, _⟩ => ⟨S_, .i32⟩
  | .hbm, ⟨24, _⟩ => ⟨S16x2048x20, .i32⟩
  | .hbm, ⟨25, _⟩ => ⟨S16x2048x20, .i32⟩
  | .hbm, ⟨26, _⟩ => ⟨S16x2048x20, .i32⟩
  | .hbm, ⟨27, _⟩ => ⟨S16x2048x20x1, .i32⟩
  | .hbm, ⟨28, _⟩ => ⟨S16x2048x20x3, .f32⟩
  | .hbm, ⟨29, _⟩ => ⟨S16x2048x1x3, .f32⟩
  | .hbm, ⟨30, _⟩ => ⟨S16x2048x20x3, .f32⟩
  | .hbm, ⟨31, _⟩ => ⟨S16x2048x20x3, .f32⟩
  | .hbm, ⟨32, _⟩ => ⟨S16x2048x20x6, .f32⟩
  | .hbm, ⟨33, _⟩ => ⟨S16x6x2048x20, .f32⟩
  | .hbm, ⟨34, _⟩ => ⟨S16x2048x20x32, .f32⟩
  | .hbm, ⟨35, _⟩ => ⟨S16x32x2048x20, .f32⟩
  | .hbm, ⟨36, _⟩ => ⟨S_, .f32⟩
  | .hbm, ⟨37, _⟩ => ⟨S32, .f32⟩
  | .hbm, ⟨38, _⟩ => ⟨S1x32x1x1, .f32⟩
  | .hbm, ⟨39, _⟩ => ⟨S_, .f32⟩
  | .hbm, ⟨40, _⟩ => ⟨S1x32x1x1, .f32⟩
  | .hbm, ⟨41, _⟩ => ⟨S1x32x1x1, .f32⟩
  | .hbm, ⟨42, _⟩ => ⟨S_, .i32⟩
  | .hbm, ⟨43, _⟩ => ⟨S_, .f32⟩
  | .hbm, ⟨44, _⟩ => ⟨S32, .f32⟩
  | .hbm, ⟨45, _⟩ => ⟨S1x32x1x1, .f32⟩
  | .hbm, ⟨46, _⟩ => ⟨S_, .f32⟩
  | .hbm, ⟨47, _⟩ => ⟨S1x32x1x1, .f32⟩
  | .hbm, ⟨48, _⟩ => ⟨S1x32x1x1, .f32⟩
  | .hbm, ⟨49, _⟩ => ⟨S16x32x2048x20, .f32⟩
  | .hbm, ⟨50, _⟩ => ⟨S16x32x2048x20, .f32⟩
  | .hbm, ⟨51, _⟩ => ⟨S16x32x2048x20, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32, .f32⟩
  | .hbm, ⟨57, _⟩ => ⟨S1x32x1x1, .f32⟩
  | .hbm, ⟨58, _⟩ => ⟨S1x32x1x1, .f32⟩
  | .hbm, ⟨59, _⟩ => ⟨S1x32x1x1, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S1x32x1x1, .f32⟩
  | .hbm, ⟨65, _⟩ => ⟨S1x32x1x1, .f32⟩
  | .hbm, ⟨66, _⟩ => ⟨S16x32x2048x20, .f32⟩
  | .hbm, ⟨67, _⟩ => ⟨S16x32x2048x20, .f32⟩
  | .hbm, ⟨68, _⟩ => ⟨S_, .f32⟩
  | .hbm, ⟨69, _⟩ => ⟨S1x32x1x1, .f32⟩
  | .hbm, ⟨70, _⟩ => ⟨S1x32x1x1, .f32⟩
  | .hbm, ⟨71, _⟩ => ⟨S1x32x1x1, .f32⟩
  | .hbm, ⟨72, _⟩ => ⟨S16x32x2048x20, .f32⟩
  | .hbm, ⟨73, _⟩ => ⟨S16x32x2048x20, .f32⟩
  | .hbm, ⟨74, _⟩ => ⟨S1x32x1x1, .f32⟩
  | .hbm, ⟨75, _⟩ => ⟨S16x32x2048x20, .f32⟩
  | .hbm, ⟨76, _⟩ => ⟨S16x32x2048x20, .f32⟩
  | .hbm, ⟨77, _⟩ => ⟨S1x32x1x1, .f32⟩
  | .hbm, ⟨78, _⟩ => ⟨S16x32x2048x20, .f32⟩
  | .hbm, ⟨79, _⟩ => ⟨S16x32x2048x20, .f32⟩
  | .hbm, ⟨80, _⟩ => ⟨S_, .f32⟩
  | .hbm, ⟨81, _⟩ => ⟨S16x32x2048x20, .f32⟩
  | .hbm, ⟨82, _⟩ => ⟨S16x32x2048x20, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x32x2048x20, .f32⟩
  | .hbm, ⟨87, _⟩ => ⟨S16x32x2048x20, .f32⟩
  | .hbm, ⟨88, _⟩ => ⟨S_, .f32⟩
  | .hbm, ⟨89, _⟩ => ⟨S16x32x2048x20, .f32⟩
  | .hbm, ⟨90, _⟩ => ⟨S16x32x2048x20, .f32⟩
  | .hbm, ⟨91, _⟩ => ⟨S16x32x2048x20, .f32⟩
  | .hbm, ⟨92, _⟩ => ⟨S_, .f32⟩
  | .hbm, ⟨93, _⟩ => ⟨S16x32x2048x20, .f32⟩
  | .hbm, ⟨94, _⟩ => ⟨S16x32x2048x20, .f32⟩
  | .hbm, ⟨95, _⟩ => ⟨S_, .f32⟩
  | .hbm, ⟨96, _⟩ => ⟨S16x32x2048, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_values : Ref sig .tc := ⟨.hbm, 18, rfl⟩
abbrev main_indices : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_cst_3 : Ref sig .tc := ⟨.hbm, 60, rfl⟩
abbrev main_call0_v13 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_6 : Ref sig .tc := ⟨.hbm, 80, rfl⟩
abbrev main_v44 : Ref sig .tc := ⟨.hbm, 81, rfl⟩
abbrev main_v45 : Ref sig .tc := ⟨.hbm, 82, rfl⟩
abbrev main_cst_7 : Ref sig .tc := ⟨.hbm, 83, rfl⟩
abbrev main_cst_8 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v46 : Ref sig .tc := ⟨.hbm, 90, rfl⟩
abbrev main_v47 : Ref sig .tc := ⟨.hbm, 91, rfl⟩
abbrev main_cst_9 : Ref sig .tc := ⟨.hbm, 92, rfl⟩
abbrev main_v48 : Ref sig .tc := ⟨.hbm, 93, rfl⟩
abbrev main_v49 : Ref sig .tc := ⟨.hbm, 94, rfl⟩
abbrev main_cst_10 : Ref sig .tc := ⟨.hbm, 95, rfl⟩
abbrev main_v50 : Ref sig .tc := ⟨.hbm, 96, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

/-! # The run of the kernel

Every execution ends with the output array at what the second region leaves and the arguments as launched. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel ends with its two results, the first argument and the output array,
    at their final contents, and with every argument as launched. -/
theorem run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_arg0 (by decide))).trans (W4_main_arg0 m ρ c),
       h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Run

end
-- ==== Proof.Order.lean ====
module

public import Idealize.ShloMosaic.Lib.Pointwise
public import Idealize.ShloMosaic.Lib.SortFacts

@[expose] public section

set_option maxRecDepth 16384

noncomputable section

/-! # The greatest entries of a row, in order

The selection of the greatest entries of each row sorts the row's positions descending by their entries. Here
that order is named, and the selection's two results are read at an index: entries and positions in that order. -/

namespace Cert.Order

open Idealize.ShloMosaic

/-- The positions of a row of extended reals, by descending entries. -/
def order (f : Fin 2048 → EReal) : Fin 2048 → Fin 2048 :=
  sortedFrom fun k k' => (FloatOps.cmpfTotal (F := Ideal) (φ := .f32) .gt (f k) (f k') : BitVec 1) == 1#1

/-- The relation of the sort is the comparison of entries. -/
theorem gt_iff (a b : EReal) :
    ((FloatOps.cmpfTotal (F := Ideal) (φ := .f32) .gt a b : BitVec 1) == 1#1) = decide (b < a) := by
  by_cases h : b < a <;> simp [Ideal.cmpfTotal_def, CmpDirection.ordered, Ideal.cmp, h]

/-- No point occurs twice in the order. -/
theorem order_injective (f : Fin 2048 → EReal) : Function.Injective (order f) := sortedFrom_injective _

/-- Every point occurs in the order. -/
theorem order_surjective (f : Fin 2048 → EReal) : Function.Surjective (order f) := sortedFrom_surjective _

/-- Entries descend in the order. -/
theorem order_desc (f : Fin 2048 → EReal) (i j : Fin 2048) (h : i < j) : f (order f j) ≤ f (order f i) := by
  have := sortedFrom_noInversion (fun a b => decide (f b < f a))
    (fun k k' => (FloatOps.cmpfTotal (F := Ideal) (φ := .f32) .gt (f k) (f k') : BitVec 1) == 1#1)
    (fun a b => by rw [gt_iff]; simp only [decide_eq_true_eq, decide_eq_false_iff_not]; exact fun h => not_lt.2 h.le)
    (fun a b => by rw [gt_iff]; exact id)
    (fun a b c => by simp only [decide_eq_false_iff_not, not_lt]; exact fun h h' => le_trans h h') i j h
  exact not_lt.1 (of_decide_eq_false this)

variable {K : ℕ} (hK : K ≤ 2048) (p : FVec Ideal ⟨3, ![16, 2048, 2048]⟩ .f32)
  (h : (⟨3, ![16, 2048, 2048]⟩ : Shape).Slices (fun _ => 0) ⟨3, ![16, 2048, K]⟩)
  (b : Fin 16) (n : Fin 2048) (r : Fin K)

/-- Replacing the last coordinate of an index. -/
theorem along_last (b : Fin 16) (n k k' : Fin 2048) :
    (ix3 b n k : (⟨3, ![16, 2048, 2048]⟩ : Shape).Idx).along 2 k' = ix3 b n k' := by
  funext a
  match a with
  | ⟨0, _⟩ => rfl
  | ⟨1, _⟩ => rfl
  | ⟨2, _⟩ => rfl

/-- A slice at offset zero that cuts the last axis alone keeps the index. -/
theorem slice_at {α : Type} (x : (⟨3, ![16, 2048, 2048]⟩ : Shape).Idx → α) :
    extractStridedSlice ⟨3, ![16, 2048, K]⟩ (fun _ => 0) x h (ix3 b n r) = x (ix3 b n ⟨r, by omega⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- The positions along the last axis, as words. -/
def positions : IVec ⟨3, ![16, 2048, 2048]⟩ 32 := fun i =>
  if hd : 2 < (⟨3, ![16, 2048, 2048]⟩ : Shape).rank then iotaInDim ⟨3, ![16, 2048, 2048]⟩ 32 ⟨2, hd⟩ i else 0#32

/-- Entries and positions, sorted by descending entries. -/
def sorted : FVec Ideal ⟨3, ![16, 2048, 2048]⟩ .f32 × IVec ⟨3, ![16, 2048, 2048]⟩ 32 :=
  Host.sort2 ⟨3, ![16, 2048, 2048]⟩ 2
    (fun l r => (FloatOps.cmpfTotal (F := Ideal) (φ := .f32) .gt l.1 r.1 : BitVec 1)) p positions

/-- The selection is a slice of the sorted entries and positions. -/
theorem topK_eq : Host.topK ⟨3, ![16, 2048, K]⟩ 2 (FloatOps.cmpfTotal (F := Ideal) (φ := .f32) .gt) p h
    = (extractStridedSlice ⟨3, ![16, 2048, K]⟩ (fun _ => 0) (sorted p).1 h,
      extractStridedSlice ⟨3, ![16, 2048, K]⟩ (fun _ => 0) (sorted p).2 h) := rfl

/-- A sort of pairs along the last axis, read at an index. -/
theorem sort_at {α β : Type} (cmp : α × β → α × β → BitVec 1) (x : (⟨3, ![16, 2048, 2048]⟩ : Shape).Idx → α)
    (y : (⟨3, ![16, 2048, 2048]⟩ : Shape).Idx → β) (k : Fin 2048) (g : Fin 2048 → Fin 2048 → Bool)
    (hg : ∀ k k', g k k' = (cmp (x (ix3 b n k), y (ix3 b n k)) (x (ix3 b n k'), y (ix3 b n k')) == 1#1)) :
    (Host.sort2 ⟨3, ![16, 2048, 2048]⟩ 2 cmp x y).1 (ix3 b n k) = x (ix3 b n (sortedFrom g k))
    ∧ (Host.sort2 ⟨3, ![16, 2048, 2048]⟩ 2 cmp x y).2 (ix3 b n k) = y (ix3 b n (sortedFrom g k)) := by
  have e : g = fun k₁ k₂ => cmp (x ((ix3 b n k : (⟨3, ![16, 2048, 2048]⟩ : Shape).Idx).along 2 k₁),
        y ((ix3 b n k : (⟨3, ![16, 2048, 2048]⟩ : Shape).Idx).along 2 k₁))
      (x ((ix3 b n k : (⟨3, ![16, 2048, 2048]⟩ : Shape).Idx).along 2 k₂),
        y ((ix3 b n k : (⟨3, ![16, 2048, 2048]⟩ : Shape).Idx).along 2 k₂)) == 1#1 := by
    funext k₁ k₂
    rw [hg, along_last, along_last]
  unfold Host.sort2
  rw [dif_pos (by decide), e]
  exact ⟨congrArg x (along_last b n k _), congrArg y (along_last b n k _)⟩

/-- The first result of the selection: the row's entries in the order. -/
theorem topK_values : (Host.topK ⟨3, ![16, 2048, K]⟩ 2 (FloatOps.cmpfTotal (F := Ideal) (φ := .f32) .gt) p h).1 (ix3 b n r)
    = p (ix3 b n (order (fun j => p (ix3 b n j)) ⟨r, by omega⟩)) := by
  rw [topK_eq]
  refine (slice_at hK h b n r (sorted p).1).trans ?_
  exact (sort_at b n (fun l r => (FloatOps.cmpfTotal (F := Ideal) (φ := .f32) .gt l.1 r.1 : BitVec 1)) p positions
    ⟨r, by omega⟩ _ fun _ _ => rfl).1

/-- The second result of the selection: the row's positions in the order, as words. -/
theorem topK_indices : (Host.topK ⟨3, ![16, 2048, K]⟩ 2 (FloatOps.cmpfTotal (F := Ideal) (φ := .f32) .gt) p h).2 (ix3 b n r)
    = BitVec.ofNat 32 (order (fun j => p (ix3 b n j)) ⟨r, by omega⟩) := by
  rw [topK_eq]
  refine (slice_at hK h b n r (sorted p).2).trans ?_
  exact (sort_at b n (fun l r => (FloatOps.cmpfTotal (F := Ideal) (φ := .f32) .gt l.1 r.1 : BitVec 1)) p positions
    ⟨r, by omega⟩ _ fun _ _ => rfl).2

end Cert.Order

end
-- ==== Proof.Reference.lean ====
module

public import proofs.«01_k».proof.Proof.Gen.ReferenceIdeal.Run
public import proofs.«01_k».proof.Proof.Order

@[expose] public section

set_option maxRecDepth 16384

noncomputable section

/-! # What the reference computes, step by step

The reference's result, cut into named steps, each read at an index. -/

namespace Cert.ReferenceIdeal.Steps

open Idealize.ShloMosaic Idealize.ShloMosaic.TcCoe Idealize.SL.Sem
open Cert.ReferenceIdeal Cert.ReferenceIdeal.Gen Cert.Order

variable (x : FVec Ideal S16x2048x3 .f32) (w : FVec Ideal S32x6 .f32) (ga be : FVec Ideal S32 .f32)

/-- The squared lengths of the points. -/
def lengths : FVec Ideal S16x2048x1 .f32 :=
  broadcastInDim S16x2048x1 ![0, 1] bcast_S16x2048_S16x2048x1_0_1
    (Host.reduceAdd (mulf x x) (constant S_ .f32 0x00000000#32) reducesTo_S16x2048x3_S16x2048_d2 h_S_)

/-- The negated squared distances of all pairs of points. -/
def pairwise : FVec Ideal S16x2048x2048 .f32 :=
  subf (subf (broadcastInDim S16x2048x2048 ![0, 1, 2] bcast_S16x2048x1_S16x2048x2048_0_1_2 (Host.negf (lengths x)))
    (mulf (broadcastInDim S16x2048x2048 ![] bcast_S_S16x2048x2048 (constant S_ .f32 0xC0000000#32))
      (Host.dotGeneral dot_S16x2048x3_S16x2048x3_S16x2048x2048_2_2_1_1_0_0 none x x)))
    (broadcastInDim S16x2048x2048 ![0, 1, 2] bcast_S16x1x2048_S16x2048x2048_0_1_2
      (transpose S16x1x2048 [0, 2, 1] (lengths x) transposes_S16x2048x1_S16x1x2048_0_2_1))

/-- The positions of the twenty nearest points. -/
def nearest : IVec S16x2048x20 32 :=
  (Host.topK S16x2048x20 2 (FloatOps.cmpfTotal (F := Ideal) (φ := .f32) .gt) (pairwise x) sliceFits_S16x2048x2048_S16x2048x20).2

/-- The positions, a negative one counted from the end. -/
def positions : IVec S16x2048x20x1 32 :=
  broadcastInDim S16x2048x20x1 ![0, 1, 2] bcast_S16x2048x20_S16x2048x20x1_0_1_2
    (select (cmpi .slt (nearest x) (broadcastInDim S16x2048x20 ![] bcast_S_S16x2048x20 (constantI S_ 32 0#32)))
      (addi (nearest x) (broadcastInDim S16x2048x20 ![] bcast_S_S16x2048x20 (constantI S_ 32 2048#32))) (nearest x))

/-- The nearest points. -/
def gathered : FVec Ideal S16x2048x20x3 .f32 :=
  Host.gather gather_S16x2048x3_S16x2048x20x1_S16x2048x20x3_3_1_0_0_1_3_113 x (positions x)

/-- Every point, once for each of its neighbours. -/
def repeated : FVec Ideal S16x2048x20x3 .f32 :=
  broadcastInDim S16x2048x20x3 ![0, 1, 2, 3] bcast_S16x2048x1x3_S16x2048x20x3_0_1_2_3
    (broadcastInDim S16x2048x1x3 ![0, 1, 3] bcast_S16x2048x3_S16x2048x1x3_0_1_3 x)

/-- The linear map of the edge features. -/
def conv : FVec Ideal S16x32x2048x20 .f32 :=
  transpose S16x32x2048x20 [0, 3, 1, 2]
    (Host.dotGeneral dot_S16x6x2048x20_S32x6_S16x2048x20x32_1_1_023_0_n_n none
      (transpose S16x6x2048x20 [0, 3, 1, 2]
        (concatenate S16x2048x20x6 3 [⟨S16x2048x20x3, repeated x⟩, ⟨S16x2048x20x3, subf (gathered x) (repeated x)⟩]
          concatenates_S16x2048x20x3_S16x2048x20x3_S16x2048x20x6_d3)
        transposes_S16x2048x20x6_S16x6x2048x20_0_3_1_2) w)
    transposes_S16x2048x20x32_S16x32x2048x20_0_3_1_2

variable (y : FVec Ideal S16x32x2048x20 .f32)

/-- The mean of a feature over all edges. -/
def mean : FVec Ideal S1x32x1x1 .f32 :=
  Host.divf (broadcastInDim S1x32x1x1 ![1] bcast_S32_S1x32x1x1_1
      (Host.reduceAdd y (constant S_ .f32 0x00000000#32) reducesTo_S16x32x2048x20_S32_d0_2_3 h_S_))
    (broadcastInDim S1x32x1x1 ![] bcast_S_S1x32x1x1 (constant S_ .f32 0x49200000#32))

/-- A feature's distance to its mean. -/
def centred : FVec Ideal S16x32x2048x20 .f32 :=
  subf y (broadcastInDim S16x32x2048x20 ![0, 1, 2, 3] bcast_S1x32x1x1_S16x32x2048x20_0_1_2_3 (mean y))

/-- The number of edges less the correction, which is zero. -/
def count : FVec Ideal S_ .f32 := subf (constant S_ .f32 0x49200000#32) (sitofp .f32 (constantI S_ 32 0#32))

/-- The variance of a feature over all edges. -/
def variance : FVec Ideal S1x32x1x1 .f32 :=
  select (broadcastInDim S1x32x1x1 ![] bcast_S_S1x32x1x1 (cmpf .ogt count (constant S_ .f32 0x00000000#32)))
    (Host.divf (broadcastInDim S1x32x1x1 ![1] bcast_S32_S1x32x1x1_1
        (Host.reduceAdd (mulf (centred y) (centred y)) (constant S_ .f32 0x00000000#32)
          reducesTo_S16x32x2048x20_S32_d0_2_3 h_S_))
      (broadcastInDim S1x32x1x1 ![] bcast_S_S1x32x1x1 count))
    (broadcastInDim S1x32x1x1 ![] bcast_S_S1x32x1x1 (id (constant S_ .f32 0x7FC00000#32)))

/-- The normalised feature, scaled and shifted. -/
def normed : FVec Ideal S16x32x2048x20 .f32 :=
  addf (mulf (Host.divf (centred y)
      (broadcastInDim S16x32x2048x20 ![0, 1, 2, 3] bcast_S1x32x1x1_S16x32x2048x20_0_1_2_3
        (Host.sqrt (addf (variance y) (broadcastInDim S1x32x1x1 ![] bcast_S_S1x32x1x1 (constant S_ .f32 0x3727C5AC#32))))))
      (broadcastInDim S16x32x2048x20 ![0, 1, 2, 3] bcast_S1x32x1x1_S16x32x2048x20_0_1_2_3
        (broadcastInDim S1x32x1x1 ![1] bcast_S32_S1x32x1x1_1 ga)))
    (broadcastInDim S16x32x2048x20 ![0, 1, 2, 3] bcast_S1x32x1x1_S16x32x2048x20_0_1_2_3
      (broadcastInDim S1x32x1x1 ![1] bcast_S32_S1x32x1x1_1 be))

/-- The activation. -/
def activated (v : FVec Ideal S16x32x2048x20 .f32) : FVec Ideal S16x32x2048x20 .f32 :=
  Host.divf (mulf v (minimumf (broadcastInDim S16x32x2048x20 ![] bcast_S_S16x32x2048x20 (id (constant S_ .f32 0x40C00000#32)))
      (maximumf (broadcastInDim S16x32x2048x20 ![] bcast_S_S16x32x2048x20 (id (constant S_ .f32 0x00000000#32)))
        (addf v (broadcastInDim S16x32x2048x20 ![] bcast_S_S16x32x2048x20 (constant S_ .f32 0x40400000#32))))))
    (broadcastInDim S16x32x2048x20 ![] bcast_S_S16x32x2048x20 (constant S_ .f32 0x40C00000#32))

/-- The maximum over a point's neighbours. -/
def result : FVec Ideal S16x32x2048 .f32 :=
  Host.reduce FloatOps.maximumf (activated (normed ga be (conv x w))) (constant S_ .f32 0xFF800000#32)
    reducesTo_S16x32x2048x20_S16x32x2048_d3 h_S_

/-- The reference's result is the last of these steps. -/
theorem res_eq (m : (ℓ : Loc nD τ sig) → Buf (Elt Ideal) ℓ) (c : Dev nD) :
    Value.res_main_v50 m c = result (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Steps

end
-- ==== Proof.Spec.lean ====
module

public import Idealize.ShloMosaic.Lib.Pointwise

@[expose] public section

noncomputable section

/-! # The layer over the real numbers

Points, neighbours and weights as real numbers: the edge features, their mean and variance, and the activated
maximum as a function of them. Both programs are shown to compute `out`. -/

namespace Cert.Spec

open Idealize.ShloMosaic

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The small number added to the variance. -/
def eps : ℝ := 10995116 / 2 ^ 40

/-- The word of the small number added to the variance denotes it. -/
theorem eps_eq : Ideal.ofBits .f32 0x3727C5AC#32 = (eps : EReal) := by
  simp [Ideal.ofBits, Ideal.ieee, -EReal.coe_mul, eps]; norm_num
/-- The word of the number of edges denotes 655360. -/
theorem count_eq : Ideal.ofBits .f32 0x49200000#32 = ((655360 : ℝ) : EReal) := by
  simp [Ideal.ofBits, Ideal.ieee, -EReal.coe_mul]; norm_num
/-- The word of six denotes 6. -/
theorem six_eq : Ideal.ofBits .f32 0x40C00000#32 = ((6 : ℝ) : EReal) := by
  simp [Ideal.ofBits, Ideal.ieee, -EReal.coe_mul]; norm_num
/-- The word of one half denotes 1/2. -/
theorem half_eq : Ideal.ofBits .f32 0x3F000000#32 = ((1 / 2 : ℝ) : EReal) := by
  simp [Ideal.ofBits, Ideal.ieee, -EReal.coe_mul]; norm_num
/-- The word of minus two denotes -2. -/
theorem neg_two_eq : Ideal.ofBits .f32 0xC0000000#32 = ((-2 : ℝ) : EReal) := by
  simp [Ideal.ofBits, Ideal.ieee, -EReal.coe_mul]; norm_num
/-- The small number is positive. -/
theorem eps_pos : 0 < eps := by unfold eps; norm_num

variable (X : Fin 16 → Fin 2048 → Fin 3 → ℝ) (W : Fin 32 → Fin 6 → ℝ) (Z : Fin 16 → Fin 2048 → Fin 20 → Fin 3 → ℝ)
  (Γ : Fin 32 → ℝ) (β : Fin 32 → EReal)

/-- The feature `o` of the edge from point `n` to its neighbour `r`. -/
def feature (b : Fin 16) (n : Fin 2048) (r : Fin 20) (o : Fin 32) : ℝ :=
  ∑ c : Fin 3, X b n c * W o ⟨c, by omega⟩ + ∑ c : Fin 3, (Z b n r c - X b n c) * W o ⟨3 + c, by omega⟩

/-- The mean of a function of all edges. -/
def avg (f : Fin 16 → Fin 2048 → Fin 20 → ℝ) : ℝ := (∑ b, ∑ n, ∑ r, f b n r) / 655360

/-- The mean of feature `o`. -/
def mean (o : Fin 32) : ℝ := avg fun b n r => feature X W Z b n r o

/-- The variance of feature `o`. -/
def var (o : Fin 32) : ℝ := avg fun b n r => (feature X W Z b n r o - mean X W Z o) * (feature X W Z b n r o - mean X W Z o)

/-- The activation of a normalised feature. -/
def gate (v : EReal) : EReal :=
  Ideal.div (v * min (Ideal.ofBits .f32 0x40C00000#32) (max 0 (v + Ideal.ofBits .f32 0x40400000#32)))
    (Ideal.ofBits .f32 0x40C00000#32)

/-- The normalised feature, scaled and shifted. -/
def normed (b : Fin 16) (n : Fin 2048) (r : Fin 20) (o : Fin 32) : EReal :=
  (((feature X W Z b n r o - mean X W Z o) * (Real.sqrt (var X W Z o + eps))⁻¹ * Γ o : ℝ) : EReal) + β o

/-- The layer's output: the activated maximum over the neighbours. -/
def out (b : Fin 16) (o : Fin 32) (n : Fin 2048) : EReal :=
  Finset.fold max (Ideal.ofBits .f32 0xFF800000#32) (fun r => gate (normed X W Z Γ β b n r o)) Finset.univ

/-- The variance is not negative. -/
theorem var_nonneg (o : Fin 32) : 0 ≤ var X W Z o :=
  div_nonneg (Finset.sum_nonneg fun _ _ => Finset.sum_nonneg fun _ _ => Finset.sum_nonneg fun _ _ => mul_self_nonneg _)
    (by norm_num)

/-- The variance is the mean square less the squared mean. -/
theorem var_eq (o : Fin 32) : var X W Z o
    = avg (fun b n r => feature X W Z b n r o * feature X W Z b n r o) - mean X W Z o * mean X W Z o := by
  have hm : ∑ b, ∑ n, ∑ r, feature X W Z b n r o = 655360 * mean X W Z o := by
    unfold mean avg; ring
  have hs : ∑ b, ∑ n, ∑ r, (feature X W Z b n r o - mean X W Z o) * (feature X W Z b n r o - mean X W Z o)
      = (∑ b, ∑ n, ∑ r, feature X W Z b n r o * feature X W Z b n r o)
        - 2 * mean X W Z o * (∑ b, ∑ n, ∑ r, feature X W Z b n r o)
        + ∑ b : Fin 16, ∑ n : Fin 2048, ∑ r : Fin 20, mean X W Z o * mean X W Z o := by
    simp only [Finset.mul_sum, ← Finset.sum_sub_distrib, ← Finset.sum_add_distrib]
    refine Finset.sum_congr rfl fun b _ => Finset.sum_congr rfl fun n _ => Finset.sum_congr rfl fun r _ => ?_
    ring
  unfold var avg
  rw [hs, hm]
  simp only [Finset.sum_const, Finset.card_univ, Fintype.card_fin, nsmul_eq_mul]
  push_cast
  ring

/-- The layer depends on the neighbours' coordinates alone. -/
theorem out_congr {Z' : Fin 16 → Fin 2048 → Fin 20 → Fin 3 → ℝ} (h : Z = Z') : out X W Z Γ β = out X W Z' Γ β := by
  rw [h]

end Cert.Spec

end
-- ==== Proof.Steps.lean ====
module

public import proofs.«01_k».proof.Proof.Gen.KernelIdeal.Frame

@[expose] public section

set_option maxRecDepth 16384

noncomputable section

/-! # The first region's body as nineteen repetitions of one step

The body writes the same step nineteen times. Here the step is given once, as functions of the score
matrix, and the two blocks the body stores are restated through them. -/

namespace Cert.KernelIdeal.Steps

open Idealize.ShloMosaic Idealize.ShloMosaic.TcCoe Idealize.SL.Sem
open Cert.KernelIdeal Cert.KernelIdeal.Gen

variable {F : FTy → Type} [FloatOps F] [Named F]

/-- The mask of the entries of a score matrix that reach their row's maximum. -/
def top (d : FVec F S256x2048 .f32) : IVec S256x2048 1 :=
  cmpf .oge d (broadcastTo S256x2048 (shapeCast S256x1 (multiReduction .maximumf [1] S256 d 0xFF800000#32
    reduces_S256x2048_S256 (.inl rfl) rfl) shapeCasts_S256_S256x1) broadcasts_S256x1_S256x2048)

/-- The score matrix with its rows' maxima masked out. -/
def next (d : FVec F S256x2048 .f32) : FVec F S256x2048 .f32 :=
  select (top d) (broadcast S256x2048 (Named.named κ "mask" 0xF149F2CA#32)) d

/-- The score matrix after `k` maxima have been masked out of each row. -/
def scores (d : FVec F S256x2048 .f32) : ℕ → FVec F S256x2048 .f32
  | 0 => d
  | k + 1 => next (scores d k)

/-- The points the mask of a score matrix's maxima selects: high and low parts, added. -/
def pick (hl : FVec F S2048x6 .bf16) (d : FVec F S256x2048 .f32) : FVec F S256x3 .f32 :=
  have n : FVec F S256x6 .f32 := matmul dot_S256x2048_S2048x6_S256x6_1_0_0_1_n_n none
    (truncf .bf16 (sitofp .f32 (extui 32 (top d) natLt_1_32) : FVec F S256x2048 .f32) bitsLt_bf16_f32) hl
    (constant S256x6 .f32 0x00000000#32)
  addf (extractStridedSlice S256x3 ![0, 0] n slices_S256x6_o0_0_S256x3)
    (extractStridedSlice S256x3 ![0, 3] n slices_S256x6_o0_3_S256x3)

/-- The points gathered for a block of rows: the rows' own points first, then one pick per step. -/
def point (hl : FVec F S2048x6 .bf16) (q : FVec F S256x3 .f32) (d : FVec F S256x2048 .f32) : ℕ → FVec F S256x3 .f32
  | 0 => q
  | r + 1 => pick hl (scores d r)

/-- The features of one gathered point per row. -/
def feat (a : FVec F S256x32 .f32) (C : FVec F S3x32 .f32) (z : FVec F S256x3 .f32) : FVec F S256x32 .f32 :=
  addf a (matmul dot_S256x3_S3x32_S256x32_1_0_0_1_n_n none z C (constant S256x32 .f32 0x00000000#32))

/-- The running sum of the first `r + 1` terms of a sequence of feature blocks. -/
def total (y : ℕ → FVec F S256x32 .f32) : ℕ → FVec F S256x32 .f32
  | 0 => y 0
  | r + 1 => addf (total y r) (y (r + 1))

variable (i : grid0.Coords) (x0 : Vec F S1x256x3 .f32) (x1 : Vec F S1x3x2048 .f32) (x2 : Vec F S1x2048x6 .bf16)
  (x3 : Vec F S3x32 .f32) (x4 : Vec F S3x32 .f32)

/-- The points gathered for the rows of one block, step by step. -/
def pts : ℕ → FVec F S256x3 .f32 :=
  point (k0_pay104 i x0 x1 x2 x3 x4) (k0_pay2 (View.ld x0 r0_0)) (k0_pay107 i x0 x1 x2 x3 x4)

/-- The features of the points gathered for the rows of one block, step by step. -/
def feats (r : ℕ) : FVec F S256x32 .f32 :=
  feat (k0_pay106 i x0 x1 x2 x3 x4) (k0_pay105 i x0 x1 x2 x3 x4) (pts i x0 x1 x2 x3 x4 r)

/-- Twenty blocks of three columns and four columns of zeros, side by side. -/
def stacked (z : ℕ → FVec F S256x3 .f32) : FVec F S1x1x256x64 .f32 :=
  shapeCast S1x1x256x64 (concatenate S256x64 1 [⟨S256x3, z 0⟩, ⟨S256x3, z 1⟩, ⟨S256x3, z 2⟩, ⟨S256x3, z 3⟩,
    ⟨S256x3, z 4⟩, ⟨S256x3, z 5⟩, ⟨S256x3, z 6⟩, ⟨S256x3, z 7⟩, ⟨S256x3, z 8⟩, ⟨S256x3, z 9⟩, ⟨S256x3, z 10⟩,
    ⟨S256x3, z 11⟩, ⟨S256x3, z 12⟩, ⟨S256x3, z 13⟩, ⟨S256x3, z 14⟩, ⟨S256x3, z 15⟩, ⟨S256x3, z 16⟩,
    ⟨S256x3, z 17⟩, ⟨S256x3, z 18⟩, ⟨S256x3, z 19⟩, ⟨S256x4, broadcast S256x4 (Scalar.ofBits .f32 0x00000000#32)⟩]
    concatenates_S256x3_S256x3_S256x3_S256x3_S256x3_S256x3_S256x3_S256x3_S256x3_S256x3_S256x3_S256x3_S256x3_S256x3_S256x3_S256x3_S256x3_S256x3_S256x3_S256x3_S256x4_S256x64_d1)
    shapeCasts_S256x64_S1x1x256x64

/-- The block of column sums: of the features in row 0, of their squares in row 1. -/
def sums (y : ℕ → FVec F S256x32 .f32) : FVec F S1x1x8x32 .f32 :=
  k0_pay1 (total (fun r => mulf (y r) (y r)) 19)
    (multiReduction .add [0] S32 (total y 19) 0x00000000#32 reduces_S256x32_S32 (.inl rfl) rfl)

/-- The masked scores the body names: after three steps. -/
theorem scores3 : k0_pay110 i x0 x1 x2 x3 x4 = scores (k0_pay107 i x0 x1 x2 x3 x4) 3 := rfl
/-- The masked scores the body names: after six steps. -/
theorem scores6 : k0_pay112 i x0 x1 x2 x3 x4 = scores (k0_pay107 i x0 x1 x2 x3 x4) 6 := rfl
/-- The masked scores the body names: after eight steps. -/
theorem scores8 : k0_pay114 i x0 x1 x2 x3 x4 = scores (k0_pay107 i x0 x1 x2 x3 x4) 8 := rfl
/-- The masked scores the body names: after eleven steps. -/
theorem scores11 : k0_pay118 i x0 x1 x2 x3 x4 = scores (k0_pay107 i x0 x1 x2 x3 x4) 11 := rfl
/-- The masked scores the body names: after fourteen steps. -/
theorem scores14 : k0_pay121 i x0 x1 x2 x3 x4 = scores (k0_pay107 i x0 x1 x2 x3 x4) 14 := rfl
/-- The masked scores the body names: after seventeen steps. -/
theorem scores17 : k0_pay123 i x0 x1 x2 x3 x4 = scores (k0_pay107 i x0 x1 x2 x3 x4) 17 := rfl

/-- The block of gathered points the body stores is the stack of the step-by-step points. -/
theorem out_gathered : out0_5 i x0 x1 x2 x3 x4 = View.canon [⟨r0_4, stacked (pts i x0 x1 x2 x3 x4)⟩] := rfl

/-- The block of sums the body stores is that of the step-by-step features. -/
theorem out_sums : out0_6 i x0 x1 x2 x3 x4 = View.canon [⟨r0_5, sums (feats i x0 x1 x2 x3 x4)⟩] := rfl

end Cert.KernelIdeal.Steps

end
-- ==== Proof.Select.lean ====
module

public import proofs.«01_k».proof.Proof.Steps
public import Idealize.ShloMosaic.Lib.Pointwise

@[expose] public section

set_option maxRecDepth 16384

noncomputable section

/-! # What the repeated step selects

If a row's entry at one column exceeds all the others, one step masks that column and picks that column's
point. By induction, a row whose columns are ranked strictly has its ranked points picked in order. -/

namespace Cert.KernelIdeal.Select

open Idealize.ShloMosaic Idealize.ShloMosaic.TcCoe Idealize.SL.Sem
open Cert.KernelIdeal Cert.KernelIdeal.Gen Cert.KernelIdeal.Steps

/-- The mask constant denotes negative infinity. -/
theorem mask : Named.named (F := Ideal) Cert.KernelIdeal.κ "mask" (φ := .f32) 0xF149F2CA#32 = (⊥ : EReal) :=
  IdealRules.named_const.ideal_named_scalar _ _ _ _ rfl

/-- The initial value of a maximum reduction denotes negative infinity. -/
theorem neg_inf : Ideal.ofBits .f32 0xFF800000#32 = (⊥ : EReal) := by
  simp [Ideal.ofBits, Ideal.ieee]

/-- An entry reaches its row's maximum exactly if no entry of the row exceeds it. -/
theorem fold_le {n : ℕ} (f : Fin n → EReal) (y : EReal) :
    Finset.fold max (Ideal.ofBits .f32 0xFF800000#32) f Finset.univ ≤ y ↔ ∀ k, f k ≤ y := by
  rw [Finset.fold_max_le, neg_inf]; simp

variable (d : FVec Ideal S256x2048 .f32) (hl : FVec Ideal S2048x6 .bf16) (q : FVec Ideal S256x3 .f32)
  (i : Fin 256)

/-- Where one column exceeds all the others, the mask of maxima holds there alone. -/
theorem top_of_max (m : Fin 2048) (h : ∀ j, j ≠ m → d (ix2 i j) < d (ix2 i m)) (j : Fin 2048) :
    top d (ix2 i j) = if j = m then 1#1 else 0#1 := by
  pointwise [top]
  by_cases hj : j = m
  · subst hj
    have : Finset.fold max (Ideal.ofBits .f32 0xFF800000#32) (fun x => d (ix2 i x)) Finset.univ ≤ d (ix2 i j) :=
      (fold_le _ _).2 fun k => by
        by_cases hk : k = j
        · rw [hk]
        · exact (h k hk).le
    simp [this]
  · have : ¬ Finset.fold max (Ideal.ofBits .f32 0xFF800000#32) (fun x => d (ix2 i x)) Finset.univ ≤ d (ix2 i j) :=
      fun hle => absurd ((fold_le _ _).1 hle m) (not_le.2 (h j hj))
    simp [this, hj]

/-- One step masks the column that exceeds the others. -/
theorem next_of_max (m : Fin 2048) (h : ∀ j, j ≠ m → d (ix2 i j) < d (ix2 i m)) (j : Fin 2048) :
    next d (ix2 i j) = if j = m then ⊥ else d (ix2 i j) := by
  pointwise [next]
  rw [top_of_max d i m h, mask]
  by_cases hj : j = m <;> simp [hj, Scalar.select]

/-- One step picks the point of the column that exceeds the others: its two parts, added. -/
theorem pick_of_max (m : Fin 2048) (h : ∀ j, j ≠ m → d (ix2 i j) < d (ix2 i m)) (c : Fin 3) :
    pick hl d (ix2 i c) = hl (ix2 m ⟨c, by omega⟩) + hl (ix2 m ⟨3 + c, by omega⟩) := by
  pointwise [pick]
  have hw : ∀ x, (FloatOps.sitofp (F := Ideal) FTy.f32 (BitVec.setWidth 32 (top d (ix2 i x))) : EReal)
      = if x = m then 1 else 0 := by
    intro x
    rw [top_of_max d i m h]
    by_cases hx : x = m <;> simp [hx, FloatOps.sitofp]
  have hs : ∀ g : Fin 2048 → EReal, ∑ x, (FloatOps.sitofp (F := Ideal) FTy.f32 (BitVec.setWidth 32 (top d (ix2 i x))) : EReal) * g x
      = g m := by
    intro g
    simp only [hw, ite_mul, one_mul, zero_mul, Finset.sum_ite_eq', Finset.mem_univ, if_true]
  exact congrArg₂ (· + ·) (hs fun x => hl (ix2 x ⟨c, by omega⟩)) (hs fun x => hl (ix2 x ⟨3 + c, by omega⟩))

/-- A ranking of the columns of a row of scores `e`: the column at each rank from 1 to 19 is new, and exceeds
    every column that has no rank up to it. -/
structure Ranked (e : Fin 2048 → EReal) (σ : ℕ → Fin 2048) : Prop where
  fresh : ∀ r, r < 20 → ∀ s, s < r → σ r ≠ σ s
  above : ∀ r, 1 ≤ r → r < 20 → ∀ j, (∀ s, s ≤ r → j ≠ σ s) → e j < e (σ r)
  bot_lt : ∀ j, ⊥ < e j

variable (e : Fin 2048 → EReal) (σ : ℕ → Fin 2048)

/-- If the scores of a row are masked up to rank `k`, the column at rank `k + 1` exceeds all the others. -/
theorem max_at (H : Ranked e σ) (k : ℕ) (hk : k + 1 < 20)
    (hd : ∀ j, d (ix2 i j) = if ∃ s, s ≤ k ∧ j = σ s then ⊥ else e j) (j : Fin 2048) (hj : j ≠ σ (k + 1)) :
    d (ix2 i j) < d (ix2 i (σ (k + 1))) := by
  have hm : ¬ ∃ s, s ≤ k ∧ σ (k + 1) = σ s := fun ⟨s, hs, he⟩ => H.fresh (k + 1) hk s (by omega) he
  rw [hd, hd, if_neg hm]
  split_ifs with hx
  · exact H.bot_lt _
  · refine H.above (k + 1) (by omega) hk j fun s hs he => ?_
    rcases Nat.lt_or_ge s (k + 1) with h | h
    · exact hx ⟨s, by omega, he⟩
    · exact hj (by rw [he, show s = k + 1 by omega])

/-- After `k` steps a row's scores are masked exactly at the columns of ranks up to `k`. -/
theorem scores_at (H : Ranked e σ) (hd : ∀ j, d (ix2 i j) = if j = σ 0 then ⊥ else e j) :
    ∀ k, k < 20 → ∀ j, scores d k (ix2 i j) = if ∃ s, s ≤ k ∧ j = σ s then ⊥ else e j
  | 0, _, j => by
    rw [scores, hd]
    simp
  | k + 1, hk, j => by
    have ih := scores_at H hd k (by omega)
    rw [scores, next_of_max _ _ _ (max_at _ _ e σ H k hk ih), ih]
    by_cases h1 : j = σ (k + 1)
    · rw [if_pos h1, if_pos ⟨k + 1, le_refl _, h1⟩]
    · rw [if_neg h1]
      refine if_congr ⟨fun ⟨s, hs, he⟩ => ⟨s, by omega, he⟩, fun ⟨s, hs, he⟩ => ⟨s, ?_, he⟩⟩ rfl rfl
      rcases Nat.lt_or_ge s (k + 1) with h | h
      · omega
      · exact absurd (by rw [he, show s = k + 1 by omega]) h1

/-- The points picked for a row are its ranked points, in order. -/
theorem point_at (H : Ranked e σ) (hd : ∀ j, d (ix2 i j) = if j = σ 0 then ⊥ else e j) (r : ℕ) (hr : r + 1 < 20)
    (c : Fin 3) : point hl q d (r + 1) (ix2 i c)
      = hl (ix2 (σ (r + 1)) ⟨c, by omega⟩) + hl (ix2 (σ (r + 1)) ⟨3 + c, by omega⟩) :=
  pick_of_max _ hl i _ (max_at _ _ e σ H r hr (scores_at d i e σ H hd r (by omega))) c

end Cert.KernelIdeal.Select

end
-- ==== Proof.Neighbours.lean ====
module

public import proofs.«01_k».proof.Proof.Select

@[expose] public section

noncomputable section

/-! # The ranking of the points by nearness

For a point `x n` the score of a point `x j` is `x n · x j - |x j|² / 2`, which is half of
`|x n|² - |x n - x j|²`: it is largest at `n`, and at exactly the points equal to `x n`. A descending order of
the scores, strict from the second place to the twenty-first, gives a ranking that starts at `n` itself and
meets the same points. -/

namespace Cert.Neighbours

open Cert.KernelIdeal.Select

variable (x : Fin 2048 → Fin 3 → ℝ) (n : Fin 2048)

/-- The score of point `j` seen from point `n`. -/
def score (j : Fin 2048) : ℝ := ∑ c, x n c * x j c - 1 / 2 * ∑ c, x j c * x j c

/-- A score falls short of the point's own by half the squared distance. -/
theorem score_self (j : Fin 2048) : score x n n - score x n j = 1 / 2 * ∑ c, (x n c - x j c) ^ 2 := by
  simp only [score, Fin.sum_univ_three]; ring

/-- No score exceeds the point's own. -/
theorem score_le (j : Fin 2048) : score x n j ≤ score x n n := by
  have h := score_self x n j
  have : 0 ≤ ∑ c, (x n c - x j c) ^ 2 := Finset.sum_nonneg fun c _ => sq_nonneg _
  linarith

/-- A point with the point's own score is equal to it. -/
theorem eq_of_score (j : Fin 2048) (h : score x n n ≤ score x n j) : x j = x n := by
  have h1 := score_self x n j
  have h2 : 0 ≤ ∑ c, (x n c - x j c) ^ 2 := Finset.sum_nonneg fun c _ => sq_nonneg _
  have h3 : ∑ c, (x n c - x j c) ^ 2 = 0 := by linarith
  rw [Finset.sum_eq_zero_iff_of_nonneg fun c _ => sq_nonneg _] at h3
  funext c
  have := pow_eq_zero_iff (two_ne_zero) |>.1 (h3 c (Finset.mem_univ c))
  linarith

/-- Equal points have equal scores. -/
theorem score_congr {j k : Fin 2048} (h : x j = x k) : score x n j = score x n k := by
  simp only [score, h]

/-- Place number `r` of an order of the points, for a natural number `r`. -/
def place (π : Fin 2048 → Fin 2048) (r : ℕ) : Fin 2048 := π ⟨r % 2048, Nat.mod_lt _ (by decide)⟩

variable (π : Fin 2048 → Fin 2048)

/-- The ranking: the order of the points, its first place exchanged with the place of `n`. -/
theorem ranking (hinj : Function.Injective π) (hsurj : Function.Surjective π)
    (hdesc : ∀ i j, i < j → score x n (π j) ≤ score x n (π i))
    (hstrict : ∀ r, 1 ≤ r → r < 20 → score x n (place π (r + 1)) < score x n (place π r)) :
    ∃ σ : ℕ → Fin 2048, σ 0 = n ∧ Ranked (fun j => (score x n j : EReal)) σ
      ∧ ∀ r, r < 20 → x (σ r) = x (place π r) := by
  obtain ⟨t, ht⟩ := hsurj n
  have hpl : ∀ r : ℕ, (h : r < 2048) → place π r = π ⟨r, h⟩ := fun r h => by
    unfold place; congr 1; exact Fin.ext (Nat.mod_eq_of_lt h)
  have ht1 : t.val ≤ 1 := by
    by_contra hlt
    have h1 := hstrict 1 le_rfl (by omega)
    rw [hpl 2 (by omega), hpl 1 (by omega)] at h1
    have h2 : score x n n ≤ score x n (π ⟨2, by omega⟩) := by
      rcases Nat.lt_or_ge 2 t.val with h | h
      · have := hdesc ⟨2, by omega⟩ t h
        rwa [ht] at this
      · have : t = ⟨2, by omega⟩ := Fin.ext (by simp only; omega)
        rw [← this, ht]
    have h3 := score_le x n (π ⟨1, by omega⟩)
    linarith
  have hinj' : ∀ r s, r < 2048 → s < 2048 → place π r = place π s → r = s := fun r s hr hs h => by
    rw [hpl r hr, hpl s hs] at h
    exact congrArg Fin.val (hinj h)
  have hsw : ∀ r, r ≠ 0 → r ≠ t.val → Equiv.swap 0 t.val r = r := fun r h h' => Equiv.swap_apply_of_ne_of_ne h h'
  have hx : ∀ r, r < 20 → x (place π (Equiv.swap 0 t.val r)) = x (place π r) := by
    intro r hr
    rcases Nat.eq_zero_or_pos t.val with h0 | h0
    · rw [h0, Equiv.swap_self]; rfl
    · have h1 : t.val = 1 := by omega
      have hn : place π 1 = n := by rw [hpl 1 (by omega), ← ht]; congr 1; exact Fin.ext h1.symm
      have h01 : x (place π 0) = x (place π 1) := by
        rw [hn]
        refine eq_of_score x n _ ?_
        have := hdesc ⟨0, by omega⟩ t (by rw [Fin.lt_def]; simp only; omega)
        rwa [ht, ← hpl 0 (by omega)] at this
      rw [h1]
      by_cases hr0 : r = 0
      · rw [hr0, Equiv.swap_apply_left, h01]
      · by_cases hr1 : r = 1
        · rw [hr1, Equiv.swap_apply_right, h01]
        · rw [Equiv.swap_apply_of_ne_of_ne hr0 hr1]
  have hlt : ∀ r, r < 20 → Equiv.swap 0 t.val r < 20 := fun r hr => by
    rw [Equiv.swap_apply_def]; split_ifs <;> omega
  refine ⟨fun r => place π (Equiv.swap 0 t.val r), ?_, ⟨?_, ?_, fun j => EReal.bot_lt_coe _⟩, hx⟩
  · simp only [Equiv.swap_apply_left]
    rw [hpl _ t.isLt, ← ht]
  · intro r hr s hs h
    have := hinj' _ _ (by have := hlt r hr; omega) (by have := hlt s (by omega); omega) h
    have := (Equiv.swap 0 t.val).injective this
    omega
  · intro r hr1 hr j hj
    obtain ⟨u, hu⟩ := hsurj j
    have hur : r < u.val := by
      by_contra hle
      refine hj (Equiv.swap 0 t.val u.val) ?_ ?_
      · rw [Equiv.swap_apply_def]; split_ifs <;> omega
      · simp only [Equiv.swap_apply_self]
        rw [hpl _ u.isLt, ← hu]
    have h1 : score x n j ≤ score x n (place π (r + 1)) := by
      rw [hpl (r + 1) (by omega), ← hu]
      rcases Nat.lt_or_ge (r + 1) u.val with h | h
      · exact hdesc _ _ h
      · exact le_of_eq (congrArg (fun z => score x n (π z)) (Fin.ext (by simp only; omega)))
    have h2 := hstrict r hr1 hr
    have h3 : score x n (place π (Equiv.swap 0 t.val r)) = score x n (place π r) := score_congr x n (hx r hr)
    exact EReal.coe_lt_coe_iff.2 (by rw [h3]; linarith)

end Cert.Neighbours

end
-- ==== Proof.ReferenceAt.lean ====
module

public import proofs.«01_k».proof.Proof.Reference
public import proofs.«01_k».proof.Proof.Spec
public import proofs.«01_k».proof.Proof.Neighbours

@[expose] public section

set_option maxRecDepth 16384

noncomputable section

/-! # The reference's result at an index

Each step of the reference, read at an index; for real points, weights and scales the result is the layer over
the real numbers, its neighbours taken by the descending order of the pairwise array. -/

namespace Cert.ReferenceIdeal.Steps

open Idealize.ShloMosaic Idealize.ShloMosaic.TcCoe Idealize.SL.Sem
open Cert.ReferenceIdeal Cert.ReferenceIdeal.Gen Cert.Order

variable (x : FVec Ideal S16x2048x3 .f32) (w : FVec Ideal S32x6 .f32) (ga be : FVec Ideal S32 .f32)

/-- The dimensions of the gather. -/
abbrev dims : GatherDims S16x2048x3 S16x2048x20x1 S16x2048x20x3 :=
  gather_S16x2048x3_S16x2048x20x1_S16x2048x20x3_3_1_0_0_1_3_113

/-- The gather's one batching axis is the first. -/
theorem batching_iff (a : Fin 3) : a ∈ dims.operandBatchingDims ↔ a = 0 := List.mem_singleton
/-- The gather's one collapsed axis is the second. -/
theorem collapsed_iff (a : Fin 3) : a ∈ dims.collapsedSliceDims ↔ a = 1 := List.mem_singleton
/-- The gather's indices run along the second axis. -/
theorem started_iff (a : Fin 3) : a ∈ dims.startIndexMap ↔ a = 1 := List.mem_singleton
/-- Only the last axis is neither collapsed nor batching. -/
theorem kept_iff (a : Fin 3) : a ∈ dims.sKept ↔ a ≠ 1 ∧ a ≠ 0 := by
  rw [GatherDims.mem_sKept, batching_iff, collapsed_iff]

/-- A gather of points by one position per neighbour: the point at that position, clamped. -/
theorem gather_at (idx : IVec S16x2048x20x1 32) (b : Fin 16) (n : Fin 2048) (r : Fin 20) (c : Fin 3) :
    Host.gather dims x idx (ix4 b n r c)
      = x (ix3 b ⟨min (idx (ix4 b n r 0)).toInt.toNat 2047, by omega⟩ c) := by
  unfold Host.gather
  congr 1
  have h0 : dims.start (ix4 b n r c) idx 0 + dims.batchCoord (ix4 b n r c) 0 + dims.offCoord (ix4 b n r c) 0 = b.val := by
    rw [GatherDims.start_batching dims _ _ 0 ((batching_iff 0).2 rfl),
      GatherDims.offCoord_eq_zero dims _ 0 fun h => ((kept_iff 0).1 h).2 rfl, Nat.zero_add, Nat.add_zero]
    unfold GatherDims.batchCoord
    rw [dif_pos ((batching_iff 0).2 rfl)]
    rfl
  have h1 : dims.start (ix4 b n r c) idx 1 + dims.batchCoord (ix4 b n r c) 1 + dims.offCoord (ix4 b n r c) 1
      = min (idx (ix4 b n r 0)).toInt.toNat 2047 := by
    rw [GatherDims.batchCoord_eq_zero dims _ 1 fun h => absurd ((batching_iff 1).1 h) (by decide),
      GatherDims.offCoord_eq_zero dims _ 1 fun h => ((kept_iff 1).1 h).1 rfl, Nat.add_zero]
    unfold GatherDims.start
    rw [dif_pos ((started_iff 1).2 rfl)]
    refine congrArg (fun z : BitVec 32 => min z.toInt.toNat 2047) (congrArg idx ?_)
    funext e
    refine Fin.ext ?_
    match e with
    | ⟨0, _⟩ => rfl
    | ⟨1, _⟩ => rfl
    | ⟨2, _⟩ => rfl
    | ⟨3, _⟩ => rfl
  have h2 : dims.start (ix4 b n r c) idx 2 + dims.batchCoord (ix4 b n r c) 2 + dims.offCoord (ix4 b n r c) 2 = c.val := by
    rw [GatherDims.batchCoord_eq_zero dims _ 2 fun h => absurd ((batching_iff 2).1 h) (by decide)]
    unfold GatherDims.start GatherDims.offCoord
    rw [dif_neg fun h => absurd ((started_iff 2).1 h) (by decide),
      dif_pos ((kept_iff 2).2 ⟨by decide, by decide⟩), Nat.zero_add]
    rfl
  funext a
  refine Fin.ext ?_
  match a with
  | ⟨0, _⟩ => exact h0
  | ⟨1, _⟩ => exact h1
  | ⟨2, _⟩ => exact h2

/-- The position of a point as a signed word. -/
theorem word_toInt (k : Fin 2048) : (BitVec.ofNat 32 k.val).toInt = k.val := by
  have := k.isLt
  rw [BitVec.toInt_eq_toNat_of_lt (by simp [BitVec.toNat_ofNat]; omega)]
  simp [BitVec.toNat_ofNat]; omega

/-- The order of the points seen from point `n`. -/
def ranks (b : Fin 16) (n : Fin 2048) : Fin 2048 → Fin 2048 := order fun j => pairwise x (ix3 b n j)

/-- The neighbour `r` of point `n` has the position at place `r` of the order. -/
theorem positions_at (b : Fin 16) (n : Fin 2048) (r : Fin 20) :
    positions x (ix4 b n r 0) = BitVec.ofNat 32 (ranks x b n ⟨r, by omega⟩) := by
  have hn : nearest x (ix3 b n r) = BitVec.ofNat 32 (ranks x b n ⟨r, by omega⟩) :=
    topK_indices (K := 20) (by decide) (pairwise x) sliceFits_S16x2048x2048_S16x2048x20 b n r
  pointwise [positions]
  generalize ranks x b n ⟨r, by omega⟩ = k at *
  rw [hn]
  have : IntOp.cmpi .slt (BitVec.ofNat 32 k.val) 0#32 = 0#1 := by
    unfold IntOp.cmpi BitVec.slt
    simp only [word_toInt]
    have : ¬ ((k.val : ℤ) < (0#32 : BitVec 32).toInt) := by simp
    rw [decide_eq_false this]
    rfl
  rw [this]
  rfl

/-- The neighbour `r` of point `n` is the point at place `r` of the order. -/
theorem gathered_at (b : Fin 16) (n : Fin 2048) (r : Fin 20) (c : Fin 3) :
    gathered x (ix4 b n r c) = x (ix3 b (ranks x b n ⟨r, by omega⟩) c) := by
  have hp := positions_at x b n r
  have hlt := (ranks x b n ⟨r, by omega⟩).isLt
  refine (gather_at x (positions x) b n r c).trans (congrArg (fun k : Fin 2048 => x (ix3 b k c)) (Fin.ext ?_))
  show min (positions x (ix4 b n r 0)).toInt.toNat 2047 = _
  generalize positions x (ix4 b n r 0) = p at *
  generalize ranks x b n ⟨r, by omega⟩ = k at *
  rw [hp, word_toInt]
  omega

end Cert.ReferenceIdeal.Steps

end
-- ==== Proof.ReferenceValue.lean ====
module

public import proofs.«01_k».proof.Proof.ReferenceAt

@[expose] public section

set_option maxRecDepth 16384

noncomputable section

/-! # The reference over the real numbers

For real points, weights and scales the reference's result is the layer over the real numbers, its neighbours
taken by the descending order of the pairwise array. -/

namespace Cert.ReferenceIdeal.Steps

open Idealize.ShloMosaic Idealize.ShloMosaic.TcCoe Idealize.SL.Sem
open Cert.ReferenceIdeal Cert.ReferenceIdeal.Gen Cert.Order Cert.Spec

variable (x : FVec Ideal S16x2048x3 .f32) (w : FVec Ideal S32x6 .f32) (ga be : FVec Ideal S32 .f32)
  (X : Fin 16 → Fin 2048 → Fin 3 → ℝ) (W : Fin 32 → Fin 6 → ℝ) (Γ : Fin 32 → ℝ)
  (hx : ∀ b n c, x (ix3 b n c) = (X b n c : EReal)) (hw : ∀ o c, w (ix2 o c) = (W o c : EReal))
  (hg : ∀ o, ga (ix1 o) = (Γ o : EReal))

/-- The source index of an edge and a feature, for a sum over all axes but the feature's. -/
def edge (o : Fin 32) (e : Fin 16 × Fin 2048 × Fin 20) : S16x32x2048x20.Idx := ix4 e.1 o e.2.1 e.2.2

/-- A sum over all edges. -/
theorem sum_edges (y : FVec Ideal S16x32x2048x20 .f32) (o : Fin 32) :
    Ideal.hostReduceAdd reducesTo_S16x32x2048x20_S32_d0_2_3 y 0 (ix1 o) = ∑ b, ∑ n, ∑ r, y (ix4 b o n r) := by
  unfold Ideal.hostReduceAdd
  rw [zero_add, Finset.sum_filter_eq_sum_of_fiber _ (edge o), Fintype.sum_prod_type]
  · refine Finset.sum_congr rfl fun b _ => ?_
    rw [Fintype.sum_prod_type]
    rfl
  · intro e e' h
    have h0 := congrFun h 0
    have h2 := congrFun h 2
    have h3 := congrFun h 3
    exact Prod.ext h0 (Prod.ext h2 h3)
  · intro i
    constructor
    · intro h
      have h1 := congrFun h 0
      refine ⟨(i 0, i 2, i 3), ?_⟩
      have h1' : i 1 = o := Fin.ext (congrArg Fin.val h1)
      rw [eq_ix4 i]
      exact congrArg (fun z => ix4 (i 0) z (i 2) (i 3)) h1'.symm
    · rintro ⟨e, rfl⟩
      funext a
      match a with
      | ⟨0, _⟩ => rfl

include hx in
/-- The pairwise array over the real numbers: twice the score, less the point's own squared length. -/
theorem pairwise_real (b : Fin 16) (n j : Fin 2048) : pairwise x (ix3 b n j)
    = ((2 * Neighbours.score (X b) n j - ∑ c, X b n c * X b n c : ℝ) : EReal) := by
  pointwise [pairwise, lengths]
  simp only [hx, neg_two_eq, Fin.sum_univ_three, Neighbours.score]
  simp only [← EReal.coe_mul, ← EReal.coe_add, ← EReal.coe_sub, ← EReal.coe_neg]
  refine congrArg _ ?_
  ring

/-- The neighbours' coordinates. -/
def Z (b : Fin 16) (n : Fin 2048) (r : Fin 20) (c : Fin 3) : ℝ := X b (ranks x b n ⟨r, by omega⟩) c

include hx hw in
/-- The linear map over the real numbers. -/
theorem conv_real (b : Fin 16) (n : Fin 2048) (r : Fin 20) (o : Fin 32) :
    conv x w (ix4 b o n r) = (feature X W (Z x X) b n r o : EReal) := by
  have hga : ∀ c, gathered x (ix4 b n r c) = (Z x X b n r c : EReal) := fun c => by rw [gathered_at, hx]; rfl
  pointwise [conv, repeated]
  simp only [hx, hw, hga, feature, Fin.sum_univ_three]
  simp only [← EReal.coe_mul, ← EReal.coe_add, ← EReal.coe_sub]

variable (y : FVec Ideal S16x32x2048x20 .f32) (Y : Fin 16 → Fin 2048 → Fin 20 → Fin 32 → ℝ)
  (hy : ∀ b n r o, y (ix4 b o n r) = (Y b n r o : EReal))

include hy

/-- The mean over the real numbers. -/
theorem mean_real (o : Fin 32) : mean y (ix4 0 o 0 0) = (avg fun b n r => Y b n r o : EReal) := by
  pointwise [mean]
  rw [sum_edges, count_eq]
  simp only [hy, ← coe_sum]
  rw [Ideal.div_coe (by norm_num), ← EReal.coe_mul]
  refine congrArg _ ?_
  unfold avg
  ring

/-- The centred feature over the real numbers. -/
theorem centred_real (b : Fin 16) (n : Fin 2048) (r : Fin 20) (o : Fin 32) :
    centred y (ix4 b o n r) = ((Y b n r o - avg fun b n r => Y b n r o : ℝ) : EReal) := by
  pointwise [centred]
  rw [hy, mean_real y Y hy, EReal.coe_sub]

/-- The variance over the real numbers. -/
theorem variance_real (o : Fin 32) : variance y (ix4 0 o 0 0)
    = (avg fun b n r => (Y b n r o - avg fun b n r => Y b n r o) * (Y b n r o - avg fun b n r => Y b n r o) : EReal) := by
  pointwise [variance, count]
  have h0 : (FloatOps.sitofp (F := Ideal) FTy.f32 (0#32) : EReal) = 0 := by simp [FloatOps.sitofp]
  rw [h0, count_eq, sub_zero, if_pos (by exact_mod_cast (by norm_num : (0 : ℝ) < 655360)), sum_edges]
  have hm : ∀ b n r, (mulf (centred y) (centred y)) (ix4 b o n r)
      = (((Y b n r o - avg fun b n r => Y b n r o) * (Y b n r o - avg fun b n r => Y b n r o) : ℝ) : EReal) := fun b n r => by
    pointwise
    rw [centred_real y Y hy, EReal.coe_mul]
  simp only [hm, ← coe_sum]
  rw [Ideal.div_coe (by norm_num), ← EReal.coe_mul]
  refine congrArg _ ?_
  unfold avg
  ring

omit hy

include hx hw hg

/-- The reference's result is the layer over the real numbers. -/
theorem result_real (b : Fin 16) (o : Fin 32) (n : Fin 2048) :
    result x w ga be (ix3 b o n) = out X W (Z x X) Γ (fun o => be (ix1 o)) b o n := by
  pointwise [result]
  unfold out
  refine Finset.fold_congr fun r _ => ?_
  have hv : normed ga be (conv x w) (ix4 b o n r) = Spec.normed X W (Z x X) Γ (fun o => be (ix1 o)) b n r o := by
    pointwise [normed]
    rw [centred_real _ _ (conv_real x w X W hx hw), variance_real _ _ (conv_real x w X W hx hw), eps_eq, hg,
      ← EReal.coe_add]
    have hv : 0 ≤ var X W (Z x X) o := var_nonneg X W (Z x X) o
    have hp : 0 < var X W (Z x X) o + eps := add_pos_of_nonneg_of_pos hv eps_pos
    unfold Spec.normed
    refine congrArg (· + be (ix1 o)) ?_
    change Ideal.div ((feature X W (Z x X) b n r o - Spec.mean X W (Z x X) o : ℝ) : EReal)
      (Ideal.sqrt ((var X W (Z x X) o + eps : ℝ) : EReal)) * (Γ o : EReal) = _
    rw [Ideal.sqrt_coe, if_neg (not_lt.2 hp.le), Ideal.div_coe (Real.sqrt_pos.2 hp).ne', ← EReal.coe_mul, ← EReal.coe_mul]
    rw [one_div]
  pointwise [activated, id]
  rw [hv]
  rfl

end Cert.ReferenceIdeal.Steps

end
-- ==== Proof.Pre.lean ====
module

public import proofs.«01_k».proof.Proof.Gen.Pre_neighbours_apart
public import proofs.«01_k».proof.Proof.Reference

@[expose] public section

set_option maxRecDepth 16384

noncomputable section

/-! # What the precondition says

The precondition, read element by element: the points, the weights and the scales are real numbers, and in
each row the entries at places 1 to 20 of the order of the pairwise array descend strictly. -/

namespace Cert.Pre_neighbours_apart.Decode

open Idealize.ShloMosaic Idealize.ShloMosaic.TcCoe Idealize.SL.Sem
open Cert.Pre_neighbours_apart Cert.Pre_neighbours_apart.Gen Cert.Order

/-- The conjunction of two bits is one exactly if both are. -/
theorem andi_iff (a b : BitVec 1) : IntOp.andi a b = 1#1 ↔ a = 1#1 ∧ b = 1#1 := by revert a b; decide

/-- A conjunction over a finite set is one only if every bit is. -/
theorem all_of_fold {ι : Type} (s : Finset ι) (v : BitVec 1) (f : ι → BitVec 1)
    (h : s.fold IntOp.andi v f = 1#1) : ∀ i ∈ s, f i = 1#1 := by
  classical
  induction s using Finset.induction_on with
  | empty => exact fun i hi => absurd hi (Finset.notMem_empty i)
  | insert a s ha ih =>
    rw [Finset.fold_insert ha, andi_iff] at h
    intro i hi
    rcases Finset.mem_insert.1 hi with rfl | hi
    · exact h.1
    · exact ih h.2 i hi

/-- A conjunction over all axes is one only if every bit is. -/
theorem all_of_reduce {s u : Shape} {axes : List (Fin s.rank)} (x : IVec s 1) (v : IVec u 1)
    (h : s.ReducesTo axes S_) (hu : 0 < u.numel) (j : S_.Idx) (H : Host.reduce IntOp.andi x v h hu j = 1#1)
    (i : s.Idx) : x i = 1#1 := by
  rw [Host.reduce_eq_fold] at H
  exact all_of_fold _ _ _ H i (Finset.mem_filter.2 ⟨Finset.mem_univ _, funext fun a => a.elim0⟩)

/-- A value whose absolute value is below infinity is a real number. -/
theorem real_of_abs (a : EReal) (h : FloatOps.cmpf (F := Ideal) (φ := .f32) .olt (FloatOps.absf (F := Ideal) (φ := .f32) a)
    (Ideal.ofBits .f32 0x7F800000#32) = 1#1) : ∃ r : ℝ, a = r := by
  have hi : Ideal.ofBits .f32 0x7F800000#32 = (⊤ : EReal) := by simp [Ideal.ofBits, Ideal.ieee]
  rw [Ideal.cmpf_def, Ideal.absf_def, hi] at h
  have hlt : max a (-a) < ⊤ := by
    by_contra hn
    simp [Ideal.cmp, hn] at h
  induction a with
  | bot => simp at hlt
  | top => simp at hlt
  | coe r => exact ⟨r, rfl⟩

variable [Cert.Pre_neighbours_apart.Facts] (x : FVec Ideal S16x2048x3 .f32) (w : FVec Ideal S32x6 .f32) (ga be : FVec Ideal S32 .f32)
  (H : fn (F := Ideal) x w ga be = fun _ => 1#1)

/-- The twenty-one greatest entries of each row of the pairwise array. -/
def greatest : FVec Ideal S16x2048x21 .f32 :=
  (Host.topK S16x2048x21 2 (FloatOps.cmpfTotal (F := Ideal) (φ := .f32) .gt) (Cert.ReferenceIdeal.Steps.pairwise x)
    Facts.sliceFits_S16x2048x2048_S16x2048x21).1

/-- The greatest entries, read at an index. -/
theorem greatest_at (b : Fin 16) (n : Fin 2048) (r : Fin 21) : greatest x (ix3 b n r)
    = Cert.ReferenceIdeal.Steps.pairwise x (ix3 b n
        (order (fun j => Cert.ReferenceIdeal.Steps.pairwise x (ix3 b n j)) ⟨r, by omega⟩)) :=
  topK_values (K := 21) (by decide) (Cert.ReferenceIdeal.Steps.pairwise x) Facts.sliceFits_S16x2048x2048_S16x2048x21 b n r

/-- The pairwise array as the precondition spells it. -/
theorem pairwise_eq : subf (subf (broadcastInDim S16x2048x2048 ![0, 1, 2] Facts.bcast_S16x2048x1_S16x2048x2048_0_1_2 (Host.negf (broadcastInDim S16x2048x1 ![0, 1] Facts.bcast_S16x2048_S16x2048x1_0_1
    (Host.reduceAdd (mulf x x) (constant S_ .f32 0x00000000#32) Facts.reducesTo_S16x2048x3_S16x2048_d2 Facts.h_S_))))
    (mulf (broadcastInDim S16x2048x2048 ![] Facts.bcast_S_S16x2048x2048 (constant S_ .f32 0xC0000000#32))
      (Host.dotGeneral dot_S16x2048x3_S16x2048x3_S16x2048x2048_2_2_1_1_0_0 none x x)))
    (broadcastInDim S16x2048x2048 ![0, 1, 2] Facts.bcast_S16x1x2048_S16x2048x2048_0_1_2
      (transpose S16x1x2048 [0, 2, 1] (broadcastInDim S16x2048x1 ![0, 1] Facts.bcast_S16x2048_S16x2048x1_0_1
    (Host.reduceAdd (mulf x x) (constant S_ .f32 0x00000000#32) Facts.reducesTo_S16x2048x3_S16x2048_d2 Facts.h_S_)) Facts.transposes_S16x2048x1_S16x1x2048_0_2_1))
     = Cert.ReferenceIdeal.Steps.pairwise x := rfl

include H

/-- The precondition, element by element. -/
theorem decode : (∀ i, ∃ r : ℝ, x i = r) ∧ (∀ i, ∃ r : ℝ, w i = r) ∧ (∀ i, ∃ r : ℝ, ga i = r)
    ∧ ∀ (b : Fin 16) (n : Fin 2048) (r : Fin 19),
      Cert.ReferenceIdeal.Steps.pairwise x (ix3 b n
          (order (fun j => Cert.ReferenceIdeal.Steps.pairwise x (ix3 b n j)) ⟨2 + r, by omega⟩))
        < Cert.ReferenceIdeal.Steps.pairwise x (ix3 b n
          (order (fun j => Cert.ReferenceIdeal.Steps.pairwise x (ix3 b n j)) ⟨1 + r, by omega⟩)) := by
  have h0 := congrFun H ix0
  unfold fn fn_part1 at h0
  simp only [andi_apply, andi_iff] at h0
  obtain ⟨h1, ⟨h2, h3⟩, h4⟩ := h0
  refine ⟨fun i => real_of_abs _ (all_of_reduce _ _ _ _ _ h2 i), fun i => real_of_abs _ (all_of_reduce _ _ _ _ _ h3 i),
    fun i => real_of_abs _ (all_of_reduce _ _ _ _ _ h4 i), fun b n r => ?_⟩
  rw [pairwise_eq, show (Host.topK S16x2048x21 2 (FloatOps.cmpfTotal (F := Ideal) (φ := .f32) .gt)
    (Cert.ReferenceIdeal.Steps.pairwise x) Facts.sliceFits_S16x2048x2048_S16x2048x21).1 = greatest x from rfl] at h1
  have h5 := all_of_reduce _ _ _ _ _ h1 (ix3 b n r)
  pointwise at h5
  have h6 : greatest x (ix3 b n ⟨2 + r, by omega⟩) < greatest x (ix3 b n ⟨1 + r, by omega⟩) := by
    by_contra hn
    simp [hn] at h5
  exact lt_of_eq_of_lt (greatest_at x b n ⟨2 + r, by omega⟩).symm
    (lt_of_lt_of_eq h6 (greatest_at x b n ⟨1 + r, by omega⟩))

end Cert.Pre_neighbours_apart.Decode

end
-- ==== Proof.Acts.lean ====
module

public import proofs.«01_k».proof.Proof.Steps

@[expose] public section

set_option maxRecDepth 16384

noncomputable section

/-! # The second region's body as a maximum of twenty activations

The body reads the twenty gathered points of its rows from the packed columns, computes the activation of
each one's features and keeps the running maximum. Here one activation is given once, as a function of the
column offset, and the block the body stores is restated through it. -/

namespace Cert.KernelIdeal.Acts

open Idealize.ShloMosaic Idealize.ShloMosaic.TcCoe Idealize.SL.Sem
open Cert.KernelIdeal Cert.KernelIdeal.Gen Cert.KernelIdeal.Steps

variable {F : FTy → Type} [FloatOps F] [Named F]

/-- Three columns of the packed points, from column `3 r` on, lie inside the packed block. -/
theorem slices_at (r : ℕ) : S256x64.Slices ![0, 3 * (r % 20)] S256x3 :=
  (by decide : ∀ k : Fin 20, S256x64.Slices ![0, 3 * k.val] S256x3) ⟨r % 20, Nat.mod_lt _ (by decide)⟩

/-- The gathered point number `r` of each row. -/
def third (g : FVec F S256x64 .f32) (r : ℕ) : FVec F S256x3 .f32 :=
  extractStridedSlice S256x3 ![0, 3 * (r % 20)] g (slices_at r)

/-- The activation of a block of features: scale, shift, then `v * min 6 (max 0 (v + 3)) / 6`. -/
def act (sc sh : FVec F S1x32 .f32) (y : FVec F S256x32 .f32) : FVec F S256x32 .f32 :=
  have v : FVec F S256x32 .f32 := addf (mulf y (broadcastTo S256x32 sc broadcasts_S1x32_S256x32))
    (broadcastTo S256x32 sh broadcasts_S1x32_S256x32)
  mulf (mulf v (minimumf (broadcast S256x32 (Scalar.ofBits .f32 0x40C00000#32))
    (maximumf (broadcast S256x32 (Scalar.ofBits .f32 0x00000000#32))
      (addf v (broadcast S256x32 (Scalar.ofBits .f32 0x40400000#32))))))
    (broadcast S256x32 (Named.named κ "sixth" 0x3E2AAAAB#32))

/-- The running maximum of the first `r` blocks of a sequence, from negative infinity. -/
def best (h : ℕ → FVec F S256x32 .f32) : ℕ → FVec F S256x32 .f32
  | 0 => broadcast S256x32 (Scalar.ofBits .f32 0xFF800000#32)
  | r + 1 => maximumf (best h r) (h r)

variable (x0 : Vec F S1x256x3 .f32) (x1 : Vec F S1x1x256x64 .f32) (x2 : Vec F S3x32 .f32)
  (x3 : Vec F S3x32 .f32) (x4 : Vec F S128x8x32 .f32) (x5 : Vec F S2x32 .f32)

/-- The activations of the points gathered for the rows of one block, one by one. -/
def acts (r : ℕ) : FVec F S256x32 .f32 :=
  act (k1_pay33 x0 x1 x2 x3 x4 x5) (k1_pay34 x0 x1 x2 x3 x4 x5)
    (feat (k1_pay31 x0 x1 x2 x3 x4 x5) (k1_pay32 x0 x1 x2 x3 x4 x5) (third (k1_pay30 x0 x1 x2 x3 x4 x5) r))

/-- The block the body stores: the maximum over the twenty activations, rows and columns exchanged. -/
def result (h : ℕ → FVec F S256x32 .f32) : FVec F S1x32x256 .f32 :=
  shapeCast S1x32x256 (transpose S32x256 [1, 0] (best h 20) transposes_S256x32_p1_0_S32x256)
    shapeCasts_S32x256_S1x32x256

/-- The block the second region's body stores is the maximum of the activations of its rows' points. -/
theorem out_result : out1_6 x0 x1 x2 x3 x4 x5 = View.canon [⟨r1_6, result (acts x0 x1 x2 x3 x4 x5)⟩] := rfl

end Cert.KernelIdeal.Acts

end
-- ==== Proof.Gathered.lean ====
module

public import proofs.«01_k».proof.Proof.Select
public import proofs.«01_k».proof.Proof.Neighbours
public import proofs.«01_k».proof.Proof.Spec

@[expose] public section

set_option maxRecDepth 16384

noncomputable section

/-! # What one block of the first region computes

For a block of real points, the points the body gathers for a row are its ranked neighbours, and the two
blocks it stores hold their coordinates and the column sums of their features. -/

namespace Cert.KernelIdeal.Gathered

open Idealize.ShloMosaic Idealize.ShloMosaic.TcCoe Idealize.SL.Sem
open Cert.KernelIdeal Cert.KernelIdeal.Gen Cert.KernelIdeal.Steps Cert.KernelIdeal.Select Cert.Spec Cert.Neighbours

/-- The features of a gathered point, at an index. -/
theorem feat_at (a : FVec Ideal S256x32 .f32) (C : FVec Ideal S3x32 .f32) (z : FVec Ideal S256x3 .f32) (i : Fin 256)
    (o : Fin 32) : feat a C z (ix2 i o) = a (ix2 i o) + ∑ c, z (ix2 i c) * C (ix2 c o) := by
  pointwise [feat]

set_option maxHeartbeats 1600000 in
/-- The packed points at an index: point `r`, coordinate `c` in column `3 r + c`. -/
theorem stacked_at (z : ℕ → FVec Ideal S256x3 .f32) (i : Fin 256) (r : Fin 20) (c : Fin 3) :
    stacked z (ix4 0 0 i ⟨3 * r + c, by omega⟩) = z r (ix2 i c) := by
  pointwise [stacked]
  fin_vals r with hr
  all_goals fin_vals c with hc
  all_goals simp only [hr, hc, Nat.reduceMul, Nat.reduceAdd, Nat.reduceSub, Nat.reduceLT, ↓reduceDIte]
  all_goals exact congrArg (fun k => z _ (ix2 i k)) (Fin.ext hc.symm)

/-- The sum of a sequence of blocks, at an index. -/
theorem total_at (y : ℕ → FVec Ideal S256x32 .f32) (i : Fin 256) (o : Fin 32) : ∀ r,
    total y r (ix2 i o) = ∑ k ∈ Finset.range (r + 1), y k (ix2 i o)
  | 0 => by simp [total]
  | r + 1 => by
    rw [Finset.sum_range_succ, ← total_at y i o r]
    pointwise [total]

/-- The block of sums, at an index of row 0. -/
theorem sums_at (y : ℕ → FVec Ideal S256x32 .f32) (o : Fin 32) :
    sums y (ix4 0 0 0 o) = ∑ i, total y 19 (ix2 i o) := by
  pointwise [sums, k0_pay1]

/-- The block of sums, at an index of row 1. -/
theorem sums_sq_at (y : ℕ → FVec Ideal S256x32 .f32) (o : Fin 32) :
    sums y (ix4 0 0 1 o) = ∑ i, total (fun r => mulf (y r) (y r)) 19 (ix2 i o) := by
  pointwise [sums, k0_pay1]

/-- The row's own number, as the body computes it, is a column's number exactly at that column. -/
theorem own_iff (g : ℕ) (hg : g < 8) (p : Fin 256) (j : Fin 2048) :
    IntOp.cmpi .eq (BitVec.ofNat 32 j) (IntOp.addi (BitVec.ofNat 32 p) (Scalar.muli (BitVec.ofNat 32 g) 256#32))
      = if j.val = g * 256 + p then 1#1 else 0#1 := by
  have h : BitVec.ofNat 32 j = BitVec.ofNat 32 p + BitVec.ofNat 32 g * 256#32 ↔ j.val = g * 256 + p := by
    rw [← BitVec.toNat_inj]
    simp only [BitVec.toNat_ofNat, BitVec.toNat_add, BitVec.toNat_mul]
    omega
  unfold IntOp.cmpi IntOp.addi Scalar.muli IntOp.muli
  by_cases hj : j.val = g * 256 + p
  · rw [if_pos hj, h.2 hj]; simp
  · rw [if_neg hj]
    rw [beq_false_of_ne (mt h.1 hj)]
    rfl

variable (i : grid0.Coords) (x0 : FVec Ideal S1x256x3 .f32) (x1 : FVec Ideal S1x3x2048 .f32)
  (x2 : FVec Ideal S1x2048x6 .bf16) (x3 x4 : FVec Ideal S3x32 .f32) (x : Fin 2048 → Fin 3 → ℝ) (A C : Fin 3 → Fin 32 → ℝ)

/-- The number of row `p` of the block among all rows. -/
def row (p : Fin 256) : Fin 2048 := ⟨(i 1).val * 256 + p, by have : (i 1).val < 8 := (i 1).isLt; omega⟩

/-- The operands of one block are those of real points `x` and real weights `A` and `C`. -/
structure Operands : Prop where
  own : ∀ p c, x0 (ix3 0 p c) = (x (row i p) c : EReal)
  all : ∀ j c, x1 (ix3 0 c j) = (x j c : EReal)
  high : ∀ j (c : Fin 3), x2 (ix3 0 j ⟨c, by omega⟩) = (x j c : EReal)
  low : ∀ j (c : Fin 3), x2 (ix3 0 j ⟨3 + c, by omega⟩) = 0
  left : ∀ c o, x3 (ix2 c o) = (A c o : EReal)
  right : ∀ c o, x4 (ix2 c o) = (C c o : EReal)

variable (H : Operands i x0 x1 x2 x3 x4 x A C)

include H

/-- The scores of a row, its own column masked. -/
theorem scores_own (p : Fin 256) (j : Fin 2048) : k0_pay107 (F := Ideal) i x0 x1 x2 x3 x4 (ix2 p j)
    = if j = row i p then ⊥ else ((score x (row i p) j : ℝ) : EReal) := by
  pointwise [k0_pay107, k0_pay6, k0_pay2]
  rw [own_iff _ (i 1).isLt, mask]
  by_cases hj : j = row i p
  · rw [if_pos hj, if_pos (by rw [hj]; rfl)]
    rfl
  · rw [if_neg hj, if_neg (show ¬ j.val = (i 1).val * 256 + p from fun h => hj (Fin.ext h))]
    simp only [H.own, H.all, half_eq, Fin.sum_univ_three, score, ← EReal.coe_mul, ← EReal.coe_add, ← EReal.coe_sub]
    rfl

variable (σ : ℕ → Fin 2048) (p : Fin 256) (h0 : σ 0 = row i p)
  (hσ : Ranked (fun j => ((score x (row i p) j : ℝ) : EReal)) σ)

include h0 hσ

/-- The points gathered for a row are its ranked points. -/
theorem pts_at (r : ℕ) (hr : r < 20) (c : Fin 3) :
    pts (F := Ideal) i x0 x1 x2 x3 x4 r (ix2 p c) = (x (σ r) c : EReal) := by
  match r with
  | 0 =>
    unfold pts point
    pointwise [k0_pay2]
    rw [H.own, h0]
  | r + 1 =>
    unfold pts
    rw [point_at _ _ _ p (fun j => ((score x (row i p) j : ℝ) : EReal)) σ hσ
      (fun j => by rw [scores_own i x0 x1 x2 x3 x4 x A C H, h0]) r hr c]
    pointwise [k0_pay104, k0_pay3]
    rw [H.high, H.low, add_zero]

/-- The features of a row's ranked points. -/
theorem feats_at (r : ℕ) (hr : r < 20) (o : Fin 32) : feats (F := Ideal) i x0 x1 x2 x3 x4 r (ix2 p o)
    = ((∑ c, x (row i p) c * A c o + ∑ c, x (σ r) c * C c o : ℝ) : EReal) := by
  unfold feats
  rw [feat_at]
  simp only [pts_at i x0 x1 x2 x3 x4 x A C H σ p h0 hσ r hr]
  pointwise [k0_pay105, k0_pay106, k0_pay4, k0_pay5, k0_pay2]
  simp only [H.own, H.left, H.right, Fin.sum_univ_three, ← EReal.coe_mul, ← EReal.coe_add]

end Cert.KernelIdeal.Gathered

end
-- ==== Proof.Activated.lean ====
module

public import proofs.«01_k».proof.Proof.Acts
public import proofs.«01_k».proof.Proof.Gathered

@[expose] public section

set_option maxRecDepth 16384

noncomputable section

/-! # What one block of the second region computes

For real points, weights, sums and scales, the block the body stores holds the maxima over the neighbours of the
activated features, normalised by the mean and the variance the sums give. -/

namespace Cert.KernelIdeal.Activated

open Idealize.ShloMosaic Idealize.ShloMosaic.TcCoe Idealize.SL.Sem
open Cert.KernelIdeal Cert.KernelIdeal.Gen Cert.KernelIdeal.Steps Cert.KernelIdeal.Acts Cert.Spec

/-- The reciprocal of the number of edges. -/
theorem inv_count : Named.named (F := Ideal) Cert.KernelIdeal.κ "inv_count" (φ := .f32) 0x35CCCCCD#32
    = ((1 / 655360 : ℝ) : EReal) := IdealRules.named_const.ideal_named_scalar _ _ _ _ rfl

/-- One sixth. -/
theorem sixth : Named.named (F := Ideal) Cert.KernelIdeal.κ "sixth" (φ := .f32) 0x3E2AAAAB#32
    = ((1 / 6 : ℝ) : EReal) := IdealRules.named_const.ideal_named_scalar _ _ _ _ rfl

/-- The activation of a feature is the gate of its scaled and shifted value. -/
theorem act_at (sc sh : FVec Ideal S1x32 .f32) (y : FVec Ideal S256x32 .f32) (p : Fin 256) (o : Fin 32) :
    act sc sh y (ix2 p o) = gate (y (ix2 p o) * sc (ix2 0 o) + sh (ix2 0 o)) := by
  pointwise [act]
  rw [sixth]
  unfold gate
  rw [six_eq, Ideal.div_coe (by norm_num)]

/-- The gathered point number `r`, at an index. -/
theorem third_at (g : FVec Ideal S256x64 .f32) (r : Fin 20) (p : Fin 256) (c : Fin 3) :
    third g r (ix2 p c) = g (ix2 p ⟨3 * r + c, by omega⟩) := by
  pointwise [third]
  exact congrArg (fun k => g (ix2 p k)) (Fin.ext (by simp only [Nat.mod_eq_of_lt r.isLt]))

/-- The running maximum, at an index. -/
theorem best_at (h : ℕ → FVec Ideal S256x32 .f32) (p : Fin 256) (o : Fin 32) : ∀ k, best h k (ix2 p o)
    = (Finset.range k).fold max (Ideal.ofBits .f32 0xFF800000#32) fun r => h r (ix2 p o)
  | 0 => rfl
  | k + 1 => by
    rw [Finset.range_add_one, Finset.fold_insert (by simp), ← best_at h p o k]
    pointwise [best]
    exact max_comm _ _

/-- The block the body stores, at an index: the maximum over the twenty activations. -/
theorem result_at (h : ℕ → FVec Ideal S256x32 .f32) (p : Fin 256) (o : Fin 32) : result h (ix3 0 o p)
    = Finset.fold max (Ideal.ofBits .f32 0xFF800000#32) (fun r : Fin 20 => h r (ix2 p o)) Finset.univ := by
  pointwise [result]
  rw [best_at]
  have : Finset.range 20 = (Finset.univ : Finset (Fin 20)).map Fin.valEmbedding := by decide
  rw [this, Finset.fold_map]
  rfl

/-- A scaled and shifted feature is the normalised one, scaled and shifted. -/
theorem affine (f m s : ℝ) (b : EReal) :
    (f : EReal) * (s : EReal) + (b - ((m * s : ℝ) : EReal)) = (((f - m) * s : ℝ) : EReal) + b := by
  rw [sub_mul, EReal.coe_sub, EReal.coe_mul f, sub_eq_add_neg, sub_eq_add_neg, add_assoc, add_comm b]

variable (x0 : FVec Ideal S1x256x3 .f32) (x1 : FVec Ideal S1x1x256x64 .f32) (x2 x3 : FVec Ideal S3x32 .f32)
  (x4 : FVec Ideal S128x8x32 .f32) (x5 : FVec Ideal S2x32 .f32)
  (q : Fin 256 → Fin 3 → ℝ) (z : Fin 256 → Fin 20 → Fin 3 → ℝ) (A C : Fin 3 → Fin 32 → ℝ)
  (S Q : Fin 128 → Fin 32 → ℝ) (Γ : Fin 32 → ℝ) (β : Fin 32 → EReal)

/-- The operands of one block are those of real points, weights, sums and scales. -/
structure Operands : Prop where
  own : ∀ p c, x0 (ix3 0 p c) = (q p c : EReal)
  gathered : ∀ p (r : Fin 20) (c : Fin 3), x1 (ix4 0 0 p ⟨3 * r + c, by omega⟩) = (z p r c : EReal)
  left : ∀ c o, x2 (ix2 c o) = (A c o : EReal)
  right : ∀ c o, x3 (ix2 c o) = (C c o : EReal)
  sum : ∀ k o, x4 (ix3 k 0 o) = (S k o : EReal)
  square : ∀ k o, x4 (ix3 k 1 o) = (Q k o : EReal)
  scale : ∀ o, x5 (ix2 0 o) = (Γ o : EReal)
  shift : ∀ o, x5 (ix2 1 o) = β o

variable (H : Operands x0 x1 x2 x3 x4 x5 q z A C S Q Γ β)

/-- The mean the sums give. -/
def mean (o : Fin 32) : ℝ := (∑ k, S k o) * (1 / 655360)

/-- The variance the sums give. -/
def var (o : Fin 32) : ℝ := (∑ k, Q k o) * (1 / 655360) - mean S o * mean S o

include H

/-- The scale of a feature. -/
theorem scale_at (o : Fin 32) (hv : 0 ≤ var S Q o) : k1_pay33 (F := Ideal) x0 x1 x2 x3 x4 x5 (ix2 0 o)
    = ((Γ o * (Real.sqrt (var S Q o + eps))⁻¹ : ℝ) : EReal) := by
  have hp : 0 < var S Q o + eps := add_pos_of_nonneg_of_pos hv eps_pos
  pointwise [k1_pay33, k1_pay7, k1_pay6, k1_pay5]
  simp only [H.scale, H.sum, H.square, inv_count, ← coe_sum, ← EReal.coe_mul, ← EReal.coe_sub]
  rw [eps_eq, ← EReal.coe_add]
  change (Γ o : EReal) * Ideal.rsqrt ((var S Q o + eps : ℝ) : EReal) = _
  rw [Ideal.rsqrt_coe, if_neg (not_lt.mpr hp.le), if_neg hp.ne', EReal.coe_mul]

/-- The shift of a feature. -/
theorem shift_at (o : Fin 32) (hv : 0 ≤ var S Q o) : k1_pay34 (F := Ideal) x0 x1 x2 x3 x4 x5 (ix2 0 o)
    = β o - ((mean S o * (Γ o * (Real.sqrt (var S Q o + eps))⁻¹) : ℝ) : EReal) := by
  have hs := scale_at x0 x1 x2 x3 x4 x5 q z A C S Q Γ β H o hv
  pointwise [k1_pay33] at hs
  pointwise [k1_pay34, k1_pay8]
  rw [hs, H.shift]
  pointwise [k1_pay6, k1_pay5]
  simp only [H.sum, inv_count, ← coe_sum, ← EReal.coe_mul]
  rfl

/-- The feature of row `p` and neighbour `r`. -/
theorem feat_real (r : Fin 20) (p : Fin 256) (o : Fin 32) :
    feat (k1_pay31 (F := Ideal) x0 x1 x2 x3 x4 x5) (k1_pay32 (F := Ideal) x0 x1 x2 x3 x4 x5)
      (third (k1_pay30 (F := Ideal) x0 x1 x2 x3 x4 x5) r) (ix2 p o)
    = ((∑ c, q p c * A c o + ∑ c, z p r c * C c o : ℝ) : EReal) := by
  rw [Gathered.feat_at]
  simp only [third_at]
  pointwise [k1_pay30, k1_pay31, k1_pay32, k1_pay2, k1_pay3, k1_pay4]
  simp only [H.own, H.gathered, H.left, H.right, ← EReal.coe_mul, ← coe_sum, ← EReal.coe_add]

/-- The activation of row `p` and neighbour `r`. -/
theorem acts_real (r : Fin 20) (p : Fin 256) (o : Fin 32) (hv : 0 ≤ var S Q o) :
    acts (F := Ideal) x0 x1 x2 x3 x4 x5 r (ix2 p o)
    = gate (((((∑ c, q p c * A c o + ∑ c, z p r c * C c o) - mean S o)
        * (Real.sqrt (var S Q o + eps))⁻¹ * Γ o : ℝ) : EReal) + β o) := by
  unfold acts
  rw [act_at, feat_real x0 x1 x2 x3 x4 x5 q z A C S Q Γ β H r p o, scale_at x0 x1 x2 x3 x4 x5 q z A C S Q Γ β H o hv,
    shift_at x0 x1 x2 x3 x4 x5 q z A C S Q Γ β H o hv, affine, mul_comm (Γ o), mul_assoc (_ - _)]

/-- The block the body stores, at an index. -/
theorem result_real (p : Fin 256) (o : Fin 32) (hv : 0 ≤ var S Q o) :
    result (acts (F := Ideal) x0 x1 x2 x3 x4 x5) (ix3 0 o p)
    = Finset.fold max (Ideal.ofBits .f32 0xFF800000#32) (fun r : Fin 20 =>
        gate (((((∑ c, q p c * A c o + ∑ c, z p r c * C c o) - mean S o)
          * (Real.sqrt (var S Q o + eps))⁻¹ * Γ o : ℝ) : EReal) + β o)) Finset.univ := by
  rw [result_at]
  exact Finset.fold_congr fun r _ => acts_real x0 x1 x2 x3 x4 x5 q z A C S Q Γ β H r p o hv

end Cert.KernelIdeal.Activated

end
-- ==== Proof.Entry.lean ====
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

/-! # What the operands hold

The arrays the two regions read, at an index, in terms of the arguments and of what the first region left. -/

namespace Cert.KernelIdeal.Entry

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The points of the argument, as a vector. -/
abbrev X : FVec Ideal S16x2048x3 .f32 := m ((c : Thread nD τ).loc main_arg0)

/-- The weights of the argument, as a vector. -/
abbrev Wt : FVec Ideal S32x6 .f32 := m ((c : Thread nD τ).loc main_arg1)

/-- The block sums the first region leaves, as a vector. -/
abbrev S2 : FVec Ideal S16x8x8x32 .f32 := V2 m ρ c main_v12_1

/-- The transposed points. -/
theorem points_t (b : Fin 16) (k : Fin 3) (j : Fin 2048) :
    (V1 m ρ c main_v0 : FVec Ideal S16x3x2048 .f32) (ix3 b k j) = X m c (ix3 b j k) := by
  have h : (V1 m ρ c main_v0 : FVec Ideal S16x3x2048 .f32)
      = transpose S16x3x2048 [0, 2, 1] (X m c) transposes_S16x2048x3_S16x3x2048_0_2_1 := by
    change StableHlo.after hostOps0 (W0 m ρ c) (Proc.devRef .tc main_v0) = _
    unfold hostOps0
    after_results
  rw [h]
  pointwise

/-- The high parts and the low parts of the points, side by side. -/
theorem parts : (V1 m ρ c main_v5 : FVec Ideal S16x2048x6 .bf16) = concatenate S16x2048x6 2
    [⟨S16x2048x3, (truncf .bf16 (X m c) bitsLt_bf16_f32)⟩,
     ⟨S16x2048x3, (truncf .bf16 (subf (X m c) (extf .f32 (truncf .bf16 (X m c) bitsLt_bf16_f32) bitsLt_bf16_f32)) bitsLt_bf16_f32)⟩]
    concatenates_S16x2048x3_S16x2048x3_S16x2048x6_d2 := by
  change StableHlo.after hostOps0 (W0 m ρ c) (Proc.devRef .tc main_v5) = _
  unfold hostOps0
  after_results

/-- The high parts of the points: the points. -/
theorem high (b : Fin 16) (j : Fin 2048) (k : Fin 3) :
    (V1 m ρ c main_v5 : FVec Ideal S16x2048x6 .bf16) (ix3 b j ⟨k, by omega⟩) = X m c (ix3 b j k) := by
  rw [parts]
  pointwise

/-- The low parts of the points. -/
theorem low (b : Fin 16) (j : Fin 2048) (k : Fin 3) :
    (V1 m ρ c main_v5 : FVec Ideal S16x2048x6 .bf16) (ix3 b j ⟨3 + k, by omega⟩)
    = X m c (ix3 b j k) - X m c (ix3 b j k) := by
  rw [parts]
  pointwise

/-- The weights of a row's own point. -/
theorem left (k : Fin 3) (o : Fin 32) : (V1 m ρ c main_v9 : FVec Ideal S3x32 .f32) (ix2 k o)
    = Wt m c (ix2 o ⟨k, by omega⟩) - Wt m c (ix2 o ⟨3 + k, by omega⟩) := by
  have h : (V1 m ρ c main_v9 : FVec Ideal S3x32 .f32) = transpose S3x32 [1, 0]
      (subf (extractStridedSlice S32x3 ![0, 0] (Wt m c) slices_S32x6_S32x3_0_0)
        (extractStridedSlice S32x3 ![0, 3] (Wt m c) slices_S32x6_S32x3_0_3)) transposes_S32x3_S3x32_1_0 := by
    change StableHlo.after hostOps0 (W0 m ρ c) (Proc.devRef .tc main_v9) = _
    unfold hostOps0
    after_results
  rw [h]
  pointwise

/-- The weights of a gathered point. -/
theorem right (k : Fin 3) (o : Fin 32) : (V1 m ρ c main_v11 : FVec Ideal S3x32 .f32) (ix2 k o)
    = Wt m c (ix2 o ⟨3 + k, by omega⟩) := by
  have h : (V1 m ρ c main_v11 : FVec Ideal S3x32 .f32) = transpose S3x32 [1, 0]
      (extractStridedSlice S32x3 ![0, 3] (Wt m c) slices_S32x6_S32x3_0_3) transposes_S32x3_S3x32_1_0 := by
    change StableHlo.after hostOps0 (W0 m ρ c) (Proc.devRef .tc main_v11) = _
    unfold hostOps0
    after_results
  rw [h]
  pointwise

/-- The block sums, one block after another. -/
theorem sums_flat (b : Fin 16) (n : Fin 8) (s : Fin 8) (o : Fin 32) :
    (V3 m ρ c main_v13 : FVec Ideal S128x8x32 .f32) (ix3 ⟨b * 8 + n, by omega⟩ s o) = S2 m ρ c (ix4 b n s o) := by
  have h : (V3 m ρ c main_v13 : FVec Ideal S128x8x32 .f32)
      = shapeCast S128x8x32 (S2 m ρ c) shapeCasts_S16x8x8x32_S128x8x32 := by
    change StableHlo.after hostOps1 (W2 m ρ c) (Proc.devRef .tc main_v13) = _
    unfold hostOps1
    after_results
    rfl
  rw [h]
  pointwise

/-- The scales and the shifts, one above the other. -/
theorem affine : (V3 m ρ c main_v16 : FVec Ideal S2x32 .f32) = concatenate S2x32 0
    [⟨S1x32, broadcastInDim S1x32 ![1] bcast_S32_S1x32_1 (W2 m ρ c (Proc.devRef .tc main_arg2))⟩,
     ⟨S1x32, broadcastInDim S1x32 ![1] bcast_S32_S1x32_1 (W2 m ρ c (Proc.devRef .tc main_arg3))⟩]
    concatenates_S1x32_S1x32_S2x32_d0 := by
  change StableHlo.after hostOps1 (W2 m ρ c) (Proc.devRef .tc main_v16) = _
  unfold hostOps1
  after_results

/-- The scale. -/
theorem scale (o : Fin 32) : (V3 m ρ c main_v16 : FVec Ideal S2x32 .f32) (ix2 0 o)
    = (m ((c : Thread nD τ).loc main_arg2) : FVec Ideal S32 .f32) (ix1 o) := by
  rw [affine, W2_args m ρ c main_arg2 (by decide), W2_args m ρ c main_arg3 (by decide)]
  pointwise

/-- The shift. -/
theorem shift (o : Fin 32) : (V3 m ρ c main_v16 : FVec Ideal S2x32 .f32) (ix2 1 o)
    = (m ((c : Thread nD τ).loc main_arg3) : FVec Ideal S32 .f32) (ix1 o) := by
  rw [affine, W2_args m ρ c main_arg2 (by decide), W2_args m ρ c main_arg3 (by decide)]
  pointwise

end Cert.KernelIdeal.Entry

end
-- ==== Proof.Sums.lean ====
module

public import proofs.«01_k».proof.Proof.Gathered

@[expose] public section

set_option maxRecDepth 16384

noncomputable section

/-! # The block of column sums over the real numbers

For real features, row 0 of the block holds their sums over the block's rows and neighbours, row 1 those of
their squares. -/

namespace Cert.KernelIdeal.Gathered

open Idealize.ShloMosaic Idealize.ShloMosaic.TcCoe Idealize.SL.Sem
open Cert.KernelIdeal Cert.KernelIdeal.Gen Cert.KernelIdeal.Steps Cert.Spec

variable (y : ℕ → FVec Ideal S256x32 .f32) (o : Fin 32) (Φ : Fin 256 → Fin 20 → ℝ)
  (h : ∀ p (r : Fin 20), y r (ix2 p o) = (Φ p r : EReal))

include h

/-- Row 0: the sums of the features. -/
theorem sums_real : sums y (ix4 0 0 0 o) = ((∑ p, ∑ r, Φ p r : ℝ) : EReal) := by
  rw [sums_at]
  simp only [total_at, Finset.sum_range, h, ← coe_sum]

/-- Row 1: the sums of the squared features. -/
theorem sums_sq_real : sums y (ix4 0 0 1 o) = ((∑ p, ∑ r, Φ p r * Φ p r : ℝ) : EReal) := by
  rw [sums_sq_at]
  have hm : ∀ p (r : Fin 20), (mulf (y r) (y r)) (ix2 p o) = ((Φ p r * Φ p r : ℝ) : EReal) := fun p r => by
    pointwise
    rw [h, EReal.coe_mul]
  simp only [total_at, Finset.sum_range, hm, ← coe_sum]

end Cert.KernelIdeal.Gathered

end
-- ==== Proof.First.lean ====
module

public import proofs.«01_k».proof.Proof.Entry
public import proofs.«01_k».proof.Proof.Sums

@[expose] public section

set_option maxRecDepth 16384

noncomputable section

/-! # What the first region leaves

For real points and weights and a ranking of the points for every row: the gathered points, and the sums of the
features and of their squares, block by block. -/

namespace Cert.KernelIdeal.First

open Idealize.ShloMosaic Idealize.ShloMosaic.TcCoe Idealize.SL.Sem
open Idealize.ShloMosaic.Pipeline (Dat)
open Cert.KernelIdeal Cert.KernelIdeal.Gen Cert.KernelIdeal.Steps Cert.KernelIdeal.Select Cert.KernelIdeal.Gathered Cert.Spec

variable (m : (ℓ : Loc nD τ sig) → Buf (Elt Ideal) ℓ) (ρ : Dev nD → PrngReg) (c : Dev nD)
  (x : Fin 16 → Fin 2048 → Fin 3 → ℝ) (W : Fin 32 → Fin 6 → ℝ) (σ : Fin 16 → Fin 2048 → ℕ → Fin 2048)

/-- Real points and weights, and for every row a ranking of the points that starts with the row's own. -/
structure Data : Prop where
  points : ∀ b n k, Entry.X m c (ix3 b n k) = (x b n k : EReal)
  weights : ∀ o k, Entry.Wt m c (ix2 o k) = (W o k : EReal)
  first : ∀ b n, σ b n 0 = n
  ranked : ∀ b n, Ranked (fun j => ((Neighbours.score (x b) n j : ℝ) : EReal)) (σ b n)

/-- The weights of a row's own point. -/
def A (k : Fin 3) (o : Fin 32) : ℝ := W o ⟨k, by omega⟩ - W o ⟨3 + k, by omega⟩

/-- The weights of a gathered point. -/
def C (k : Fin 3) (o : Fin 32) : ℝ := W o ⟨3 + k, by omega⟩

/-- The feature of row `n` and its ranked point `r`. -/
def edge (b : Fin 16) (n : Fin 2048) (r : Fin 20) (o : Fin 32) : ℝ :=
  ∑ k, x b n k * A W k o + ∑ k, x b (σ b n r) k * C W k o

/-- A row by its block and its place in the block. -/
def rowAt (n : Fin 8) (p : Fin 256) : Fin 2048 := ⟨n * 256 + p, by omega⟩

/-- The sum of the features of one block. -/
def sum (b : Fin 16) (n : Fin 8) (o : Fin 32) : ℝ := ∑ p, ∑ r, edge x W σ b (rowAt n p) r o

/-- The sum of the squared features of one block. -/
def square (b : Fin 16) (n : Fin 8) (o : Fin 32) : ℝ :=
  ∑ p, ∑ r, edge x W σ b (rowAt n p) r o * edge x W σ b (rowAt n p) r o

/-- The blocks the first region reads and writes at each grid point. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0] ∧ win0_4.index t = ![0, 0]
    ∧ win0_5.index t = ![(grid0.coords t 0).val, (grid0.coords t 1).val, 0, 0]
    ∧ win0_6.index t = ![(grid0.coords t 0).val, (grid0.coords t 1).val, 0, 0] :=
  (by decide +kernel : ∀ t : Fin grid0.N, _)

/-- The batch a grid point works on. -/
def batch (t : Fin cfg0.N) : Fin 16 := ⟨(grid0.coords t 0).val, (grid0.coords t 0).isLt⟩

variable (H : Data m c x W σ)

include H

/-- The blocks the first region reads are those of real points and weights. -/
theorem operands (t : Fin cfg0.N) : Operands (grid0.coords t) (iblk0 (V1 m ρ) c 0 t) (iblk0 (V1 m ρ) c 1 t)
    (iblk0 (V1 m ρ) c 2 t) (iblk0 (V1 m ρ) c 3 t) (iblk0 (V1 m ρ) c 4 t) (x (batch t)) (A W) (C W) where
  own p k := by
    rw [← H.points, ← show (V1 m ρ c main_arg0 : FVec Ideal S16x2048x3 .f32) = Entry.X m c from W1_args m ρ c main_arg0 (by decide)]
    blk_ext [iblk0, batch, row, idx t]
  all j k := by
    rw [← H.points, ← Entry.points_t m ρ c]
    blk_ext [iblk0, batch, idx t]
  high j k := by
    rw [← H.points, ← Entry.high m ρ c]
    blk_ext [iblk0, batch, idx t]
  low j k := by
    have h := Entry.low m ρ c (batch t) j k
    rw [H.points, ← EReal.coe_sub, sub_self, EReal.coe_zero] at h
    rw [← h]
    blk_ext [iblk0, batch, idx t]
  left k o := by
    have h := Entry.left m ρ c k o
    rw [H.weights, H.weights, ← EReal.coe_sub] at h
    refine Eq.trans ?_ h
    blk_ext [iblk0, idx t]
  right k o := by
    have h := Entry.right m ρ c k o
    rw [H.weights] at h
    refine Eq.trans ?_ h
    blk_ext [iblk0, idx t]

/-- The points one grid point stores. -/
theorem stored (t : Fin cfg0.N) (p : Fin 256) (r : Fin 20) (k : Fin 3) :
    stacked (pts (F := Ideal) (grid0.coords t) (iblk0 (V1 m ρ) c 0 t) (iblk0 (V1 m ρ) c 1 t) (iblk0 (V1 m ρ) c 2 t)
      (iblk0 (V1 m ρ) c 3 t) (iblk0 (V1 m ρ) c 4 t)) (ix4 0 0 p ⟨3 * r + k, by omega⟩)
    = (x (batch t) (σ (batch t) (row (grid0.coords t) p) r) k : EReal) := by
  rw [stacked_at, pts_at _ _ _ _ _ _ _ _ _ (operands m ρ c x W σ H t) (σ (batch t) (row (grid0.coords t) p)) p
    (H.first _ _) (H.ranked _ _) r r.isLt k]

/-- The features of one grid point. -/
theorem features (t : Fin cfg0.N) (p : Fin 256) (r : Fin 20) (o : Fin 32) :
    feats (F := Ideal) (grid0.coords t) (iblk0 (V1 m ρ) c 0 t) (iblk0 (V1 m ρ) c 1 t) (iblk0 (V1 m ρ) c 2 t)
      (iblk0 (V1 m ρ) c 3 t) (iblk0 (V1 m ρ) c 4 t) r (ix2 p o)
    = (edge x W σ (batch t) (row (grid0.coords t) p) r o : EReal) :=
  feats_at _ _ _ _ _ _ _ _ _ (operands m ρ c x W σ H t) (σ (batch t) (row (grid0.coords t) p)) p
    (H.first _ _) (H.ranked _ _) r r.isLt o

/-- The first region's points, gathered: column `3 r + k` of row `n` holds coordinate `k` of the row's point `r`. -/
theorem gathered (b : Fin 16) (n : Fin 8) (p : Fin 256) (r : Fin 20) (k : Fin 3) :
    (V2 m ρ c main_v12_0 : FVec Ideal S16x8x256x64 .f32) (ix4 b n p ⟨3 * r + k, by omega⟩)
      = (x b (σ b (rowAt n p) r) k : EReal) := by
  refine (congrFun (W2_arr m ρ c 5) _).trans ?_
  have key := (dat0 (V1 m ρ) c).arrAt_forall_of_covers 5
    (fun (i : S16x8x256x64.Idx) (v : EReal) => ∀ (r : Fin 20) (k : Fin 3), (i 3).val = 3 * r.val + k.val →
      v = (x (i 0) (σ (i 0) ⟨(i 1).val * 256 + (i 2).val, by
        have h1 : (i 1).val < 8 := (i 1).isLt
        have h2 : (i 2).val < 256 := (i 2).isLt
        omega⟩ r) k : EReal)) (by decide +kernel) (fun t _ y => ?_) (ix4 b n p ⟨3 * r + k, by omega⟩)
  · exact key r k rfl
  · blk_simp
    intro r k hk
    rw [after0_5, out_gathered]
    frame_out
    obtain ⟨p, hp⟩ : ∃ p : Fin 256, p.val = (y 2).val := ⟨⟨_, (y 2).isLt⟩, rfl⟩
    have hy : y = ix4 0 0 p ⟨3 * r + k, by omega⟩ := by
      blk_ext [idx t]
    refine (congrArg _ hy).trans ((stored m ρ c x W σ H t p r k).trans ?_)
    refine congrArg₂ (fun b n => ((x b (σ b n r) k : ℝ) : EReal)) (Fin.ext (by blk_simp [idx t]; rfl)) (Fin.ext ?_)
    blk_simp [row, idx t, hp]

/-- The sums one grid point stores: of its features in row 0, of their squares in row 1. -/
theorem stored_sums (t : Fin cfg0.N) (o : Fin 32) :
    sums (feats (F := Ideal) (grid0.coords t) (iblk0 (V1 m ρ) c 0 t) (iblk0 (V1 m ρ) c 1 t) (iblk0 (V1 m ρ) c 2 t)
      (iblk0 (V1 m ρ) c 3 t) (iblk0 (V1 m ρ) c 4 t)) (ix4 0 0 0 o)
      = (sum x W σ (batch t) (grid0.coords t 1) o : EReal)
    ∧ sums (feats (F := Ideal) (grid0.coords t) (iblk0 (V1 m ρ) c 0 t) (iblk0 (V1 m ρ) c 1 t) (iblk0 (V1 m ρ) c 2 t)
      (iblk0 (V1 m ρ) c 3 t) (iblk0 (V1 m ρ) c 4 t)) (ix4 0 0 1 o)
      = (square x W σ (batch t) (grid0.coords t 1) o : EReal) :=
  ⟨sums_real _ o _ fun p r => features m ρ c x W σ H t p r o, sums_sq_real _ o _ fun p r => features m ρ c x W σ H t p r o⟩

/-- The first region's sums: of the features of a block in row 0, of their squares in row 1. -/
theorem summed (b : Fin 16) (n : Fin 8) (o : Fin 32) :
    Entry.S2 m ρ c (ix4 b n 0 o) = (sum x W σ b n o : EReal) ∧ Entry.S2 m ρ c (ix4 b n 1 o) = (square x W σ b n o : EReal) := by
  have key := (dat0 (V1 m ρ) c).arrAt_forall_of_covers 6
    (fun (i : S16x8x8x32.Idx) (v : EReal) => ((i 2).val = 0 → v = (sum x W σ (i 0) (i 1) (i 3) : EReal))
      ∧ ((i 2).val = 1 → v = (square x W σ (i 0) (i 1) (i 3) : EReal))) (by decide +kernel) (fun t _ y => ?_)
  · exact ⟨(congrFun (W2_arr m ρ c 6) _).trans ((key (ix4 b n 0 o)).1 rfl),
      (congrFun (W2_arr m ρ c 6) _).trans ((key (ix4 b n 1 o)).2 rfl)⟩
  · blk_simp
    rw [after0_6, out_sums]
    frame_out
    obtain ⟨o, ho⟩ : ∃ o : Fin 32, o.val = (y 3).val := ⟨⟨_, (y 3).isLt⟩, rfl⟩
    have h := stored_sums m ρ c x W σ H t o
    have place (f : Fin 16 → Fin 8 → Fin 32 → ℝ) : ((f (batch t) (grid0.coords t 1) o : ℝ) : EReal)
        = ((f ((win0_6.blk t).view.emb y 0) ((win0_6.blk t).view.emb y 1) ((win0_6.blk t).view.emb y 3) : ℝ) : EReal) :=
      congrArg _ (congr (congrArg₂ f (Fin.ext (by blk_simp [idx t]; rfl)) (Fin.ext (by blk_simp [idx t])))
        (Fin.ext (by blk_simp [idx t, ho])))
    refine ⟨fun hs => ?_, fun hs => ?_⟩
    · have hy : y = ix4 0 0 0 o := by
        blk_ext [idx t]
      exact (congrArg _ hy).trans (h.1.trans (place _))
    · have hy : y = ix4 0 0 1 o := by
        blk_ext [idx t]
      exact (congrArg _ hy).trans (h.2.trans (place _))

end Cert.KernelIdeal.First

end
-- ==== Proof.Moments.lean ====
module

public import proofs.«01_k».proof.Proof.Activated
public import proofs.«01_k».proof.Proof.First

@[expose] public section

set_option maxRecDepth 16384

noncomputable section

/-! # The mean and the variance from the block sums

The block sums add up to the sums over all edges, so the mean and the variance the second region computes are those of
the features. -/

namespace Cert.KernelIdeal.Moments

open Idealize.ShloMosaic Cert.Spec
open Cert.KernelIdeal.First (edge rowAt A C)

/-- The batch of a block's number. -/
def batchOf (k : Fin 128) : Fin 16 := ⟨k / 8, by omega⟩

/-- The place in its batch of a block's number. -/
def blockOf (k : Fin 128) : Fin 8 := ⟨k % 8, by omega⟩

/-- The sums over all blocks, divided by the number of edges, are the mean over all edges. -/
theorem avg_blocks (f : Fin 16 → Fin 2048 → Fin 20 → ℝ) :
    (∑ k, ∑ p, ∑ r, f (batchOf k) (rowAt (blockOf k) p) r) * (1 / 655360) = avg f := by
  unfold avg
  rw [mul_one_div, Fin.sum_univ_tiles 16 8 rfl]
  congr 1
  refine Finset.sum_congr rfl fun b _ => ?_
  rw [Fin.sum_univ_tiles 8 256 rfl]
  refine Finset.sum_congr rfl fun n _ => ?_
  have hb (h) : batchOf ⟨b.val * 8 + n.val, h⟩ = b := Fin.ext (by simp only [batchOf]; omega)
  have hn (h) : blockOf ⟨b.val * 8 + n.val, h⟩ = n := Fin.ext (by simp only [blockOf]; omega)
  rw [hb, hn]
  rfl

variable (x : Fin 16 → Fin 2048 → Fin 3 → ℝ) (W : Fin 32 → Fin 6 → ℝ) (σ : Fin 16 → Fin 2048 → ℕ → Fin 2048)

/-- The neighbours' coordinates. -/
def near (b : Fin 16) (n : Fin 2048) (r : Fin 20) (k : Fin 3) : ℝ := x b (σ b n r) k

/-- The kernel's feature of an edge is the layer's. -/
theorem edge_eq (b : Fin 16) (n : Fin 2048) (r : Fin 20) (o : Fin 32) :
    edge x W σ b n r o = feature x W (near x σ) b n r o := by
  unfold edge feature A C near
  rw [← Finset.sum_add_distrib, ← Finset.sum_add_distrib]
  exact Finset.sum_congr rfl fun k _ => by ring

/-- The block sums of the features, block after block. -/
def S (k : Fin 128) (o : Fin 32) : ℝ := First.sum x W σ (batchOf k) (blockOf k) o

/-- The block sums of the squared features, block after block. -/
def Q (k : Fin 128) (o : Fin 32) : ℝ := First.square x W σ (batchOf k) (blockOf k) o

/-- The mean the block sums give is the features' mean. -/
theorem mean_eq (o : Fin 32) : Activated.mean (S x W σ) o = mean x W (near x σ) o := by
  unfold Activated.mean S First.sum mean
  simp only [edge_eq]
  exact avg_blocks fun b n r => feature x W (near x σ) b n r o

/-- The variance the block sums give is the features' variance. -/
theorem var_eq (o : Fin 32) : Activated.var (S x W σ) (Q x W σ) o = var x W (near x σ) o := by
  unfold Activated.var Q First.square
  rw [mean_eq, Spec.var_eq]
  simp only [edge_eq]
  exact congrArg (· - _) (avg_blocks fun b n r => feature x W (near x σ) b n r o * feature x W (near x σ) b n r o)

end Cert.KernelIdeal.Moments

end
-- ==== Proof.Ranking.lean ====
module

public import proofs.«01_k».proof.Proof.ReferenceValue
public import proofs.«01_k».proof.Proof.Neighbours
public import proofs.«01_k».proof.Proof.Pre
public import proofs.«01_k».proof.Proof.Moments

@[expose] public section

set_option maxRecDepth 16384

noncomputable section

/-! # Every row's ranking

Under the precondition every row of real points has a ranking that starts with the row's own point and that names, place
by place, points with the coordinates of the reference's neighbours. -/

namespace Cert.Ranking

open Idealize.ShloMosaic
open Cert.ReferenceIdeal.Steps (pairwise ranks pairwise_real Z)
open Cert.KernelIdeal.Select (Ranked)
open Cert.Order

/-- A row's places 1 to 20 descending strictly, the row has a ranking. -/
theorem of_order (y : Fin 2048 → Fin 3 → ℝ) (n : Fin 2048) (f : Fin 2048 → EReal) (π : Fin 2048 → Fin 2048)
    (hinj : Function.Injective π) (hsurj : Function.Surjective π) (hdesc : ∀ i j, i < j → f (π j) ≤ f (π i))
    (hle : ∀ i j, f i ≤ f j ↔ Neighbours.score y n i ≤ Neighbours.score y n j)
    (hs : ∀ r : Fin 19, f (π ⟨2 + r, by omega⟩) < f (π ⟨1 + r, by omega⟩)) : ∃ σ : ℕ → Fin 2048, σ 0 = n
    ∧ Ranked (fun j => ((Neighbours.score y n j : ℝ) : EReal)) σ ∧ ∀ r : Fin 20, y (σ r) = y (π ⟨r, by omega⟩) := by
  have hpl : ∀ r : ℕ, (h : r < 2048) → Neighbours.place π r = π ⟨r, h⟩ := fun r h => by
    unfold Neighbours.place
    exact congrArg π (Fin.ext (Nat.mod_eq_of_lt h))
  obtain ⟨σ, h0, hσ, hz⟩ := Neighbours.ranking y n π hinj hsurj (fun i j h => (hle _ _).1 (hdesc i j h))
    (fun r h1 h2 => by
      obtain ⟨r, rfl⟩ : ∃ k, r = 1 + k := ⟨r - 1, by omega⟩
      rw [hpl _ (by omega), hpl _ (by omega)]
      have h := mt (hle _ _).2 (not_le.2 (hs ⟨r, by omega⟩))
      refine lt_of_eq_of_lt (congrArg (fun k => Neighbours.score y n (π k)) (Fin.ext ?_)) (not_le.1 h)
      show 1 + r + 1 = 2 + r
      omega)
  exact ⟨σ, h0, hσ, fun r => by rw [hz r r.isLt, hpl]⟩

variable (x : FVec Ideal Cert.ReferenceIdeal.S16x2048x3 .f32) (X : Fin 16 → Fin 2048 → Fin 3 → ℝ)
  (hx : ∀ b n k, x (ix3 b n k) = (X b n k : EReal))

include hx

/-- The reference's order of the points is the order of the scores. -/
theorem le_iff (b : Fin 16) (n i j : Fin 2048) : pairwise x (ix3 b n i) ≤ pairwise x (ix3 b n j)
    ↔ Neighbours.score (X b) n i ≤ Neighbours.score (X b) n j := by
  rw [pairwise_real x X hx, pairwise_real x X hx, EReal.coe_le_coe_iff]
  constructor <;> intro h <;> linarith

variable (hs : ∀ b n (r : Fin 19), pairwise x (ix3 b n (order (fun j => pairwise x (ix3 b n j)) ⟨2 + r, by omega⟩))
  < pairwise x (ix3 b n (order (fun j => pairwise x (ix3 b n j)) ⟨1 + r, by omega⟩)))

include hs

/-- Every row has a ranking. -/
theorem ranking (b : Fin 16) (n : Fin 2048) : ∃ σ : ℕ → Fin 2048, σ 0 = n
    ∧ Ranked (fun j => ((Neighbours.score (X b) n j : ℝ) : EReal)) σ
    ∧ ∀ (r : Fin 20) k, X b (σ r) k = Z x X b n r k := by
  let f : Fin 2048 → EReal := fun j => pairwise x (ix3 b n j)
  obtain ⟨σ, h0, hσ, hz⟩ := of_order (X b) n f (order f) (order_injective f) (order_surjective f) (order_desc f)
    (le_iff x X hx b n) (hs b n)
  refine ⟨σ, h0, hσ, fun r k => ?_⟩
  have h : ranks x b n = order f := by unfold ranks; rfl
  unfold Z
  rw [hz, h]

end Cert.Ranking

end
-- ==== Proof.Second.lean ====
module

public import proofs.«01_k».proof.Proof.Moments

@[expose] public section

set_option maxRecDepth 16384

noncomputable section

/-! # What the second region leaves

For real points, weights and scales and a ranking of the points for every row, the output array is the layer. -/

namespace Cert.KernelIdeal.Second

open Idealize.ShloMosaic Idealize.ShloMosaic.TcCoe Idealize.SL.Sem
open Idealize.ShloMosaic.Pipeline (Dat)
open Cert.KernelIdeal Cert.KernelIdeal.Gen Cert.KernelIdeal.Acts Cert.KernelIdeal.Activated Cert.KernelIdeal.Moments
open Cert.KernelIdeal.First (Data edge rowAt A C)

variable (m : (ℓ : Loc nD τ sig) → Buf (Elt Ideal) ℓ) (ρ : Dev nD → PrngReg) (c : Dev nD)
  (x : Fin 16 → Fin 2048 → Fin 3 → ℝ) (W : Fin 32 → Fin 6 → ℝ) (σ : Fin 16 → Fin 2048 → ℕ → Fin 2048) (Γ : Fin 32 → ℝ)

/-- The scales of the argument, as a vector. -/
abbrev Ga : FVec Ideal S32 .f32 := m ((c : Thread nD τ).loc main_arg2)

/-- The shifts of the argument, as a vector. -/
abbrev Be : FVec Ideal S32 .f32 := m ((c : Thread nD τ).loc main_arg3)

/-- The blocks the second region reads and writes at each grid point. -/
theorem idx : ∀ t : Fin cfg1.N, win1_0.index t = ![(grid1.coords t 0).val, (grid1.coords t 1).val, 0]
    ∧ win1_1.index t = ![(grid1.coords t 0).val, (grid1.coords t 1).val, 0, 0]
    ∧ win1_2.index t = ![0, 0] ∧ win1_3.index t = ![0, 0] ∧ win1_4.index t = ![0, 0, 0] ∧ win1_5.index t = ![0, 0]
    ∧ win1_6.index t = ![(grid1.coords t 0).val, 0, (grid1.coords t 1).val] :=
  (by decide +kernel : ∀ t : Fin grid1.N, _)

/-- The batch a grid point works on. -/
def batch (t : Fin cfg1.N) : Fin 16 := ⟨(grid1.coords t 0).val, (grid1.coords t 0).isLt⟩

/-- The block of rows a grid point works on. -/
def block (t : Fin cfg1.N) : Fin 8 := ⟨(grid1.coords t 1).val, (grid1.coords t 1).isLt⟩

/-- The first argument reaches the second region unchanged. -/
theorem points_kept : (V3 m ρ c main_arg0 : FVec Ideal S16x2048x3 .f32) = Entry.X m c :=
  W3_args m ρ c main_arg0 (by decide)

/-- The gathered points reach the second region unchanged. -/
theorem gathered_kept : (V3 m ρ c main_v12_0 : FVec Ideal S16x8x256x64 .f32) = V2 m ρ c main_v12_0 :=
  W3_of m ρ c main_v12_0 (by decide)

/-- The weights of a row's own point reach the second region unchanged. -/
theorem left_kept : (V3 m ρ c main_v9 : FVec Ideal S3x32 .f32) = V1 m ρ c main_v9 :=
  (W3_of m ρ c main_v9 (by decide)).trans (W2_of m ρ c main_v9 (by decide))

/-- The weights of a gathered point reach the second region unchanged. -/
theorem right_kept : (V3 m ρ c main_v11 : FVec Ideal S3x32 .f32) = V1 m ρ c main_v11 :=
  (W3_of m ρ c main_v11 (by decide)).trans (W2_of m ρ c main_v11 (by decide))

variable (H : Data m c x W σ) (hg : ∀ o, Ga m c (ix1 o) = (Γ o : EReal))

include H hg

/-- The blocks the second region reads are those of real points, weights, sums and scales. -/
theorem operands (t : Fin cfg1.N) : Operands (iblk1 (V3 m ρ) c 0 t) (iblk1 (V3 m ρ) c 1 t) (iblk1 (V3 m ρ) c 2 t)
    (iblk1 (V3 m ρ) c 3 t) (iblk1 (V3 m ρ) c 4 t) (iblk1 (V3 m ρ) c 5 t)
    (fun p k => x (batch t) (rowAt (block t) p) k) (fun p r k => x (batch t) (σ (batch t) (rowAt (block t) p) r) k)
    (A W) (C W) (S x W σ) (Q x W σ) Γ (fun o => Be m c (ix1 o)) where
  own p k := by
    rw [← H.points, ← points_kept m ρ c]
    blk_ext [iblk1, batch, block, rowAt, idx t]
  gathered p r k := by
    rw [← First.gathered m ρ c x W σ H (batch t) (block t) p r k, ← gathered_kept]
    blk_ext [iblk1, batch, block, idx t]
  left k o := by
    have h := Entry.left m ρ c k o
    rw [H.weights, H.weights, ← EReal.coe_sub, ← left_kept] at h
    refine Eq.trans ?_ h
    blk_ext [iblk1, idx t]
  right k o := by
    have h := Entry.right m ρ c k o
    rw [H.weights, ← right_kept] at h
    refine Eq.trans ?_ h
    blk_ext [iblk1, idx t]
  sum k o := by
    have h := (Entry.sums_flat m ρ c (batchOf k) (blockOf k) 0 o).trans (First.summed m ρ c x W σ H _ _ o).1
    refine Eq.trans ?_ h
    blk_ext [iblk1, batchOf, blockOf, idx t]
  square k o := by
    have h := (Entry.sums_flat m ρ c (batchOf k) (blockOf k) 1 o).trans (First.summed m ρ c x W σ H _ _ o).2
    refine Eq.trans ?_ h
    blk_ext [iblk1, batchOf, blockOf, idx t]
  scale o := by
    have h := (Entry.scale m ρ c o).trans (hg o)
    refine Eq.trans ?_ h
    blk_ext [iblk1, idx t]
  shift o := by
    refine Eq.trans ?_ (Entry.shift m ρ c o)
    blk_ext [iblk1, idx t]

/-- What one grid point stores is the layer at its rows. -/
theorem stored (t : Fin cfg1.N) (p : Fin 256) (o : Fin 32) :
    result (acts (F := Ideal) (iblk1 (V3 m ρ) c 0 t) (iblk1 (V3 m ρ) c 1 t) (iblk1 (V3 m ρ) c 2 t)
      (iblk1 (V3 m ρ) c 3 t) (iblk1 (V3 m ρ) c 4 t) (iblk1 (V3 m ρ) c 5 t)) (ix3 0 o p)
    = Spec.out x W (near x σ) Γ (fun o => Be m c (ix1 o)) (batch t) o (rowAt (block t) p) := by
  have hv : 0 ≤ var (S x W σ) (Q x W σ) o := by
    rw [Moments.var_eq]
    exact Spec.var_nonneg _ _ _ _
  refine (result_real _ _ _ _ _ _ _ _ _ _ _ _ _ _ (operands m ρ c x W σ Γ H hg t) p o hv).trans ?_
  rw [Moments.var_eq, Moments.mean_eq]
  refine Finset.fold_congr fun r _ => ?_
  unfold Spec.normed
  rw [← Moments.edge_eq]
  rfl

/-- The output array is the layer. -/
theorem output (b : Fin 16) (o : Fin 32) (n : Fin 2048) :
    (W4 m ρ c (Proc.devRef .tc main_v17) : FVec Ideal S16x32x2048 .f32) (ix3 b o n)
      = Spec.out x W (near x σ) Γ (fun o => Be m c (ix1 o)) b o n := by
  refine (congrFun (W4_arr m ρ c 6) _).trans ?_
  refine (dat1 (V3 m ρ) c).arrAt_forall_of_covers 6 (fun (i : S16x32x2048.Idx) (v : EReal) =>
    v = Spec.out x W (near x σ) Γ (fun o => Be m c (ix1 o)) (i 0) (i 1) (i 2)) (by decide +kernel) (fun t _ y => ?_)
    (ix3 b o n)
  blk_simp
  rw [after1_6, out_result]
  frame_out
  obtain ⟨o, ho⟩ : ∃ o : Fin 32, o.val = (y 1).val := ⟨⟨_, (y 1).isLt⟩, rfl⟩
  obtain ⟨p, hp⟩ : ∃ p : Fin 256, p.val = (y 2).val := ⟨⟨_, (y 2).isLt⟩, rfl⟩
  have hy : y = ix3 0 o p := by
    blk_ext [idx t]
  refine (congrArg _ hy).trans ((stored m ρ c x W σ Γ H hg t p o).trans ?_)
  refine congr (congrArg₂ (Spec.out x W (near x σ) Γ _) (Fin.ext ?_) (Fin.ext ?_)) (Fin.ext ?_)
  · blk_simp [idx t]
    rfl
  · blk_simp [idx t, ho]
  · blk_simp [rowAt, block, idx t, hp]

end Cert.KernelIdeal.Second

end
-- ==== Proof.Equation.lean ====
module

public import proofs.«01_k».proof.Proof.Ranking
public import proofs.«01_k».proof.Proof.Second

@[expose] public section

set_option maxRecDepth 16384

noncomputable section

/-! # The equation

Under the precondition the kernel's output array is the reference's result. -/

namespace Cert.Equation

open Idealize.ShloMosaic Idealize.ShloMosaic.TcCoe Idealize.SL.Sem
open Cert.KernelIdeal Cert.KernelIdeal.Gen Cert.KernelIdeal.First
open Cert.KernelIdeal.Entry (X Wt)
open Cert.KernelIdeal.Second (Ga Be)

variable [Cert.Pre_neighbours_apart.Facts]
variable (m : (ℓ : Loc nD τ sig) → Buf (Elt Ideal) ℓ) (ρ : Dev nD → PrngReg) (c : Dev nD)

/-- The output array is the reference's result of the arguments. -/
theorem equation (H : Cert.Pre_neighbours_apart.fn (F := Ideal) (X m c) (Wt m c) (Ga m c) (Be m c) = fun _ => 1#1) :
    (W4 m ρ c (Proc.devRef .tc main_v17) : FVec Ideal S16x32x2048 .f32)
      = Cert.ReferenceIdeal.Steps.result (X m c) (Wt m c) (Ga m c) (Be m c) := by
  obtain ⟨hx, hw, hg, hs⟩ := Cert.Pre_neighbours_apart.Decode.decode (X m c) (Wt m c) (Ga m c) (Be m c) H
  choose x hx using fun b n k => hx (ix3 b n k)
  choose W hw using fun o k => hw (ix2 o k)
  choose Γ hg using fun o => hg (ix1 o)
  choose σ h0 hσ hz using fun b n => Cert.Ranking.ranking (X m c) x hx hs b n
  have hD : Data m c x W σ := ⟨hx, hw, h0, hσ⟩
  have hZ : Cert.KernelIdeal.Moments.near x σ = Cert.ReferenceIdeal.Steps.Z (X m c) x := by
    funext b n r k
    exact hz b n r k
  funext i
  rw [eq_ix3 i]
  refine (Cert.KernelIdeal.Second.output m ρ c x W σ Γ hD hg _ _ _).trans ?_
  rw [hZ]
  exact (Cert.ReferenceIdeal.Steps.result_real (X m c) (Wt m c) (Ga m c) (Be m c) x W Γ hx hw hg _ _ _).symm

end Cert.Equation

end
-- ==== Proof.lean ====
/- The certificate of the k-nearest-neighbour edge convolution: the frames of the kernel, of its ideal program and of
   the reference, the named constants, and the equation of kernel and reference over the extended reals. The
   mathematics is in the modules under Proof/; here they are put together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_neighbours_apart
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference ends from any memory, its arguments unchanged; it declares no semaphore, so every counter is zero. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The mask is minus infinity, and the two rounded literals are 1/655360 and 1/6. -/
theorem constants : Cert.preserves_Kernel_KernelIdeal :=
  ⟨IdealRules.named_const.statement Cert.KernelIdeal.κ "mask" .f32 0xF149F2CA#32 ⊥ rfl,
    IdealRules.named_const.statement Cert.KernelIdeal.κ "inv_count" .f32 0x35CCCCCD#32 ((1 / 655360 : ℝ) : EReal) rfl,
    IdealRules.named_const.statement Cert.KernelIdeal.κ "sixth" .f32 0x3E2AAAAB#32 ((1 / 6 : ℝ) : EReal) rfl⟩

/-- From equal arguments that satisfy the precondition both programs end with equal results. -/
theorem equal [Cert.Pre_neighbours_apart.Facts] :
    Cert.algebraic_KernelIdeal_ReferenceIdeal_pre_neighbours_apart := by
  intro m ρ m' ρ' hpre hagree
  refine ⟨_, _, Cert.KernelIdeal.Run.run (F := Ideal) m ρ, ?_⟩
  refine (θ_run Cert.ReferenceIdeal.defs _ _).mono
    (fun _ h c => ⟨(h c).1.trans (hagree c).1, (h c).2.1.trans ?_, (h c).2.2⟩)
    (Cert.ReferenceIdeal.Value.run (F := Ideal) m' ρ')
  rw [Cert.ReferenceIdeal.Steps.res_eq, (hagree c).1, (hagree c).2.1, (hagree c).2.2.1, (hagree c).2.2.2]
  exact (Cert.Equation.equation m ρ c (hpre c)).symm

/-- All the claims. -/
theorem claim : Cert.Claim :=
  ⟨Cert.Kernel.Gen.facts, Cert.KernelIdeal.Gen.facts, Cert.ReferenceIdeal.Gen.facts, Cert.Pre_neighbours_apart.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    constants, equal⟩

end Cert.Proof

end
